-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_biases_bounded_logits [hPre_plain_biases_bounded_logits : Cert.Pre_plain_biases_bounded_logits.Facts] (m : (ℓ : Loc Cert.KernelIdeal.nD Cert.KernelIdeal.τ Cert.KernelIdeal.sig) → Buf (Elt Ideal) ℓ) : Prop :=
  ∀ c : Dev Cert.KernelIdeal.nD,
    (Cert.Pre_plain_biases_bounded_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_plain_biases_bounded_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_plain_biases_bounded_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_plain_biases_bounded_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_plain_biases_bounded_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_plain_biases_bounded_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_plain_biases_bounded_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_plain_biases_bounded_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_biases_bounded_logits [hPre_plain_biases_bounded_logits : Cert.Pre_plain_biases_bounded_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_biases_bounded_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_plain_biases_bounded_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_plain_biases_bounded_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_plain_biases_bounded_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_plain_biases_bounded_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_plain_biases_bounded_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_plain_biases_bounded_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_plain_biases_bounded_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_plain_biases_bounded_logits [hKernelIdeal : Cert.KernelIdeal.Facts] [hPre_plain_biases_bounded_logits : Cert.Pre_plain_biases_bounded_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_biases_bounded_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_plain_biases_bounded_logits [hReferenceIdeal : Cert.ReferenceIdeal.Facts] [hPre_plain_biases_bounded_logits : Cert.Pre_plain_biases_bounded_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_biases_bounded_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_plain_biases_bounded_logits [hKernelIdeal : Cert.KernelIdeal.Facts] [hReferenceIdeal : Cert.ReferenceIdeal.Facts] [hPre_plain_biases_bounded_logits : Cert.Pre_plain_biases_bounded_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_biases_bounded_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v487) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_plain_biases_bounded_logits : Cert.Pre_plain_biases_bounded_logits.Facts),
    quiescent_Kernel (hKernel := hKernel)
    ∧ quiescent_KernelIdeal (hKernelIdeal := hKernelIdeal)
    ∧ quiescent_KernelIdeal_pre_plain_biases_bounded_logits (hKernelIdeal := hKernelIdeal) (hPre_plain_biases_bounded_logits := hPre_plain_biases_bounded_logits)
    ∧ quiescent_ReferenceIdeal (hReferenceIdeal := hReferenceIdeal)
    ∧ quiescent_ReferenceIdeal_pre_plain_biases_bounded_logits (hReferenceIdeal := hReferenceIdeal) (hPre_plain_biases_bounded_logits := hPre_plain_biases_bounded_logits)
    ∧ preserves_Kernel_KernelIdeal
    ∧ algebraic_KernelIdeal_ReferenceIdeal_pre_plain_biases_bounded_logits (hKernelIdeal := hKernelIdeal) (hReferenceIdeal := hReferenceIdeal) (hPre_plain_biases_bounded_logits := hPre_plain_biases_bounded_logits)
-- ==== Pre_plain_biases_bounded_logits.lean ====
abbrev S262144x64 : Shape := ⟨2, ![262144, 64]⟩
abbrev S262144x1 : Shape := ⟨2, ![262144, 1]⟩
abbrev S64x256 : Shape := ⟨2, ![64, 256]⟩
abbrev S256 : Shape := ⟨1, ![256]⟩
abbrev S256x256 : Shape := ⟨2, ![256, 256]⟩
abbrev S4x256x97 : Shape := ⟨3, ![4, 256, 97]⟩
abbrev S4x97 : Shape := ⟨2, ![4, 97]⟩
abbrev S256x4 : Shape := ⟨2, ![256, 4]⟩
abbrev S4 : Shape := ⟨1, ![4]⟩
abbrev S262144x256 : Shape := ⟨2, ![262144, 256]⟩
abbrev S1x256 : Shape := ⟨2, ![1, 256]⟩
abbrev S_ : Shape := ⟨0, ![]⟩
abbrev S1x256x97 : Shape := ⟨3, ![1, 256, 97]⟩
abbrev S256x97 : Shape := ⟨2, ![256, 97]⟩
abbrev S262144x97 : Shape := ⟨2, ![262144, 97]⟩
abbrev S1x97 : Shape := ⟨2, ![1, 97]⟩
abbrev S97 : Shape := ⟨1, ![97]⟩

class Facts : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  slices_S4x256x97_S1x256x97_3_0_0 : S4x256x97.Slices ![3, 0, 0] S1x256x97
  shapeCasts_S1x256x97_S256x97 : S1x256x97.ShapeCasts S256x97
  slices_S4x97_S1x97_3_0 : S4x97.Slices ![3, 0] S1x97
  shapeCasts_S1x97_S97 : S1x97.ShapeCasts S97
  bcast_S97_S1x97_1 : S97.BroadcastsInDim S1x97 (![1] : Fin 1 → Fin S1x97.rank)
  bcast_S1x97_S262144x97_0_1 : S1x97.BroadcastsInDim S262144x97 (![0, 1] : Fin 2 → Fin S262144x97.rank)
  slices_S4x256x97_S1x256x97_2_0_0 : S4x256x97.Slices ![2, 0, 0] S1x256x97
  slices_S4x97_S1x97_2_0 : S4x97.Slices ![2, 0] S1x97
  slices_S4x256x97_S1x256x97_1_0_0 : S4x256x97.Slices ![1, 0, 0] S1x256x97
  slices_S4x97_S1x97_1_0 : S4x97.Slices ![1, 0] S1x97
  slices_S4x256x97_S1x256x97_0_0_0 : S4x256x97.Slices ![0, 0, 0] S1x256x97
  slices_S4x97_S1x97_0_0 : S4x97.Slices ![0, 0] S1x97
  bcast_S_S256 : S_.BroadcastsInDim S256 (![] : Fin 0 → Fin S256.rank)
  bcast_S_S4x97 : S_.BroadcastsInDim S4x97 (![] : Fin 0 → Fin S4x97.rank)
  bcast_S_S4 : S_.BroadcastsInDim S4 (![] : Fin 0 → Fin S4.rank)
  slices_S262144x97_S262144x64_0_0 : S262144x97.Slices ![0, 0] S262144x64
  bcast_S_S262144x64 : S_.BroadcastsInDim S262144x64 (![] : Fin 0 → Fin S262144x64.rank)
  dot_S262144x64_S64x256_S262144x256_1_0_0_1_n_n_wf : DotDims.WF S262144x64 S64x256 S262144x256 [1] [0] [0] [1] [] []
  dot_S262144x256_S256x256_S262144x256_1_0_0_1_n_n_wf : DotDims.WF S262144x256 S256x256 S262144x256 [1] [0] [0] [1] [] []
  dot_S262144x256_S256x97_S262144x97_1_0_0_1_n_n_wf : DotDims.WF S262144x256 S256x97 S262144x97 [1] [0] [0] [1] [] []

variable [Facts]

def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x97_S262144x97_1_0_0_1_n_n : DotDims S262144x256 S256x97 S262144x97 where
  lhsContracting := [1]
  rhsContracting := [0]
  lhsNonContracting := [0]
  rhsNonContracting := [1]
  lhsBatch := []
  rhsBatch := []
  wf := dot_S262144x256_S256x97_S262144x97_1_0_0_1_n_n_wf
def fn_relu {F : FTy → Type} [FloatOps F] (arg0 : FVec F S262144x256 .f32) : FVec F S262144x256 .f32 :=
  let cst : FVec F S_ .f32 := constant S_ .f32 0x00000000#32
  let v0 : FVec F S262144x256 .f32 := broadcastInDim S262144x256 ![] bcast_S_S262144x256 cst
  let v1 : FVec F S262144x256 .f32 := maximumf arg0 v0
  v1

def fn_part3 {F : FTy → Type} [FloatOps F] (main_v41 : FVec F S262144x97 .f32) (main_v43 : IVec S256 1) (main_v45 : IVec S256 1) (main_v47 : IVec S4x97 1) (main_v49 : IVec S4 1) (main_v55 : IVec S262144x64 1) (main_v61 : IVec S262144x64 1) (main_v62 : FVec F S262144x64 .f32) (main_cst_7 : FVec F S_ .f32) : IVec S256 1 × IVec S256 1 × IVec S4x97 1 × IVec S4 1 × IVec S262144x64 1 × IVec S262144x64 1 × IVec S262144x64 1 × IVec S262144x64 1 :=
  let main_v63 : FVec F S262144x64 .f32 := broadcastInDim S262144x64 ![] bcast_S_S262144x64 main_cst_7
  let main_v64 : IVec S262144x64 1 := cmpf .ogt main_v62 main_v63
  let main_cst_8 : FVec F S_ .f32 := constant S_ .f32 0x42A00000#32
  let main_v65 : FVec F S262144x64 .f32 := broadcastInDim S262144x64 ![] bcast_S_S262144x64 main_cst_8
  let main_v66 : IVec S262144x64 1 := cmpf .ole main_v62 main_v65
  let main_v67 : IVec S262144x64 1 := andi main_v64 main_v66
  let main_v68 : FVec F S262144x64 .f32 := (extractStridedSlice S262144x64 ![0, 0] · slices_S262144x97_S262144x64_0_0) main_v41
  let main_cst_9 : FVec F S_ .f32 := constant S_ .f32 0xFF800000#32
  let main_v69 : FVec F S262144x64 .f32 := broadcastInDim S262144x64 ![] bcast_S_S262144x64 main_cst_9
  let main_v70 : IVec S262144x64 1 := cmpf .ogt main_v68 main_v69
  let main_cst_10 : FVec F S_ .f32 := constant S_ .f32 0x42A00000#32
  let main_v71 : FVec F S262144x64 .f32 := broadcastInDim S262144x64 ![] bcast_S_S262144x64 main_cst_10
  let main_v72 : IVec S262144x64 1 := cmpf .ole main_v68 main_v71
  let main_v73 : IVec S262144x64 1 := andi main_v70 main_v72
  (main_v43, main_v45, main_v47, main_v49, main_v55, main_v61, main_v67, main_v73)

def fn_part2 {F : FTy → Type} [FloatOps F] (main_arg7 : FVec F S4x97 .f32) (main_arg9 : FVec F S4 .f32) (main_v17 : FVec F S262144x97 .f32) (main_v25 : FVec F S262144x97 .f32) (main_v33 : FVec F S262144x97 .f32) (main_v41 : FVec F S262144x97 .f32) (main_v43 : IVec S256 1) (main_v45 : IVec S256 1) : IVec S256 1 × IVec S256 1 × IVec S4x97 1 × IVec S4 1 × IVec S262144x64 1 × IVec S262144x64 1 × IVec S262144x64 1 × IVec S262144x64 1 :=
  let main_cst_1 : FVec F S_ .f32 := constant S_ .f32 0x00000000#32
  let main_v46 : FVec F S4x97 .f32 := broadcastInDim S4x97 ![] bcast_S_S4x97 main_cst_1
  let main_v47 : IVec S4x97 1 := cmpf .oeq main_arg7 main_v46
  let main_cst_2 : FVec F S_ .f32 := constant S_ .f32 0x00000000#32
  let main_v48 : FVec F S4 .f32 := broadcastInDim S4 ![] bcast_S_S4 main_cst_2
  let main_v49 : IVec S4 1 := cmpf .oeq main_arg9 main_v48
  let main_v50 : FVec F S262144x64 .f32 := (extractStridedSlice S262144x64 ![0, 0] · slices_S262144x97_S262144x64_0_0) main_v17
  let main_cst_3 : FVec F S_ .f32 := constant S_ .f32 0xFF800000#32
  let main_v51 : FVec F S262144x64 .f32 := broadcastInDim S262144x64 ![] bcast_S_S262144x64 main_cst_3
  let main_v52 : IVec S262144x64 1 := cmpf .ogt main_v50 main_v51
  let main_cst_4 : FVec F S_ .f32 := constant S_ .f32 0x42A00000#32
  let main_v53 : FVec F S262144x64 .f32 := broadcastInDim S262144x64 ![] bcast_S_S262144x64 main_cst_4
  let main_v54 : IVec S262144x64 1 := cmpf .ole main_v50 main_v53
  let main_v55 : IVec S262144x64 1 := andi main_v52 main_v54
  let main_v56 : FVec F S262144x64 .f32 := (extractStridedSlice S262144x64 ![0, 0] · slices_S262144x97_S262144x64_0_0) main_v25
  let main_cst_5 : FVec F S_ .f32 := constant S_ .f32 0xFF800000#32
  let main_v57 : FVec F S262144x64 .f32 := broadcastInDim S262144x64 ![] bcast_S_S262144x64 main_cst_5
  let main_v58 : IVec S262144x64 1 := cmpf .ogt main_v56 main_v57
  let main_cst_6 : FVec F S_ .f32 := constant S_ .f32 0x42A00000#32
  let main_v59 : FVec F S262144x64 .f32 := broadcastInDim S262144x64 ![] bcast_S_S262144x64 main_cst_6
  let main_v60 : IVec S262144x64 1 := cmpf .ole main_v56 main_v59
  let main_v61 : IVec S262144x64 1 := andi main_v58 main_v60
  let main_v62 : FVec F S262144x64 .f32 := (extractStridedSlice S262144x64 ![0, 0] · slices_S262144x97_S262144x64_0_0) main_v33
  let main_cst_7 : FVec F S_ .f32 := constant S_ .f32 0xFF800000#32
  fn_part3 (F := F) main_v41 main_v43 main_v45 main_v47 main_v49 main_v55 main_v61 main_v62 main_cst_7

def fn_part1 {F : FTy → Type} [FloatOps F] (main_arg3 : FVec F S256 .f32) (main_arg5 : FVec F S256 .f32) (main_arg6 : FVec F S4x256x97 .f32) (main_arg7 : FVec F S4x97 .f32) (main_arg9 : FVec F S4 .f32) (main_v9 : FVec F S262144x256 .f32) (main_v17 : FVec F S262144x97 .f32) (main_v20 : FVec F S262144x97 .f32) (main_v23 : FVec F S1x97 .f32) : IVec S256 1 × IVec S256 1 × IVec S4x97 1 × IVec S4 1 × IVec S262144x64 1 × IVec S262144x64 1 × IVec S262144x64 1 × IVec S262144x64 1 :=
  let main_v24 : FVec F S262144x97 .f32 := broadcastInDim S262144x97 ![0, 1] bcast_S1x97_S262144x97_0_1 main_v23
  let main_v25 : FVec F S262144x97 .f32 := addf main_v20 main_v24
  let main_v26 : FVec F S1x256x97 .f32 := (extractStridedSlice S1x256x97 ![1, 0, 0] · slices_S4x256x97_S1x256x97_1_0_0) main_arg6
  let main_v27 : FVec F S256x97 .f32 := shapeCast S256x97 main_v26 shapeCasts_S1x256x97_S256x97
  let main_v28 : FVec F S262144x97 .f32 := (fun l r => Host.dotGeneral dot_S262144x256_S256x97_S262144x97_1_0_0_1_n_n none l r) main_v9 main_v27
  let main_v29 : FVec F S1x97 .f32 := (extractStridedSlice S1x97 ![1, 0] · slices_S4x97_S1x97_1_0) main_arg7
  let main_v30 : FVec F S97 .f32 := shapeCast S97 main_v29 shapeCasts_S1x97_S97
  let main_v31 : FVec F S1x97 .f32 := broadcastInDim S1x97 ![1] bcast_S97_S1x97_1 main_v30
  let main_v32 : FVec F S262144x97 .f32 := broadcastInDim S262144x97 ![0, 1] bcast_S1x97_S262144x97_0_1 main_v31
  let main_v33 : FVec F S262144x97 .f32 := addf main_v28 main_v32
  let main_v34 : FVec F S1x256x97 .f32 := (extractStridedSlice S1x256x97 ![0, 0, 0] · slices_S4x256x97_S1x256x97_0_0_0) main_arg6
  let main_v35 : FVec F S256x97 .f32 := shapeCast S256x97 main_v34 shapeCasts_S1x256x97_S256x97
  let main_v36 : FVec F S262144x97 .f32 := (fun l r => Host.dotGeneral dot_S262144x256_S256x97_S262144x97_1_0_0_1_n_n none l r) main_v9 main_v35
  let main_v37 : FVec F S1x97 .f32 := (extractStridedSlice S1x97 ![0, 0] · slices_S4x97_S1x97_0_0) main_arg7
  let main_v38 : FVec F S97 .f32 := shapeCast S97 main_v37 shapeCasts_S1x97_S97
  let main_v39 : FVec F S1x97 .f32 := broadcastInDim S1x97 ![1] bcast_S97_S1x97_1 main_v38
  let main_v40 : FVec F S262144x97 .f32 := broadcastInDim S262144x97 ![0, 1] bcast_S1x97_S262144x97_0_1 main_v39
  let main_v41 : FVec F S262144x97 .f32 := addf main_v36 main_v40
  let main_cst : FVec F S_ .f32 := constant S_ .f32 0x00000000#32
  let main_v42 : FVec F S256 .f32 := broadcastInDim S256 ![] bcast_S_S256 main_cst
  let main_v43 : IVec S256 1 := cmpf .oeq main_arg3 main_v42
  let main_cst_0 : FVec F S_ .f32 := constant S_ .f32 0x00000000#32
  let main_v44 : FVec F S256 .f32 := broadcastInDim S256 ![] bcast_S_S256 main_cst_0
  let main_v45 : IVec S256 1 := cmpf .oeq main_arg5 main_v44
  fn_part2 (F := F) main_arg7 main_arg9 main_v17 main_v25 main_v33 main_v41 main_v43 main_v45

def fn {F : FTy → Type} [FloatOps F] (main_arg0 : FVec F S262144x64 .f32) (main_arg1 : FVec F S262144x1 .f32) (main_arg2 : FVec F S64x256 .f32) (main_arg3 : FVec F S256 .f32) (main_arg4 : FVec F S256x256 .f32) (main_arg5 : FVec F S256 .f32) (main_arg6 : FVec F S4x256x97 .f32) (main_arg7 : FVec F S4x97 .f32) (main_arg8 : FVec F S256x4 .f32) (main_arg9 : FVec F S4 .f32) : IVec S256 1 × IVec S256 1 × IVec S4x97 1 × IVec S4 1 × IVec S262144x64 1 × IVec S262144x64 1 × IVec S262144x64 1 × IVec S262144x64 1 :=
  let main_v0 : FVec F S262144x256 .f32 := (fun l r => Host.dotGeneral dot_S262144x64_S64x256_S262144x256_1_0_0_1_n_n none l r) main_arg0 main_arg2
  let main_v1 : FVec F S1x256 .f32 := broadcastInDim S1x256 ![1] bcast_S256_S1x256_1 main_arg3
  let main_v2 : FVec F S262144x256 .f32 := broadcastInDim S262144x256 ![0, 1] bcast_S1x256_S262144x256_0_1 main_v1
  let main_v3 : FVec F S262144x256 .f32 := addf main_v0 main_v2
  let main_v4 : FVec F S262144x256 .f32 := fn_relu (F := F) main_v3
  let main_v5 : FVec F S262144x256 .f32 := (fun l r => Host.dotGeneral dot_S262144x256_S256x256_S262144x256_1_0_0_1_n_n none l r) main_v4 main_arg4
  let main_v6 : FVec F S1x256 .f32 := broadcastInDim S1x256 ![1] bcast_S256_S1x256_1 main_arg5
  let main_v7 : FVec F S262144x256 .f32 := broadcastInDim S262144x256 ![0, 1] bcast_S1x256_S262144x256_0_1 main_v6
  let main_v8 : FVec F S262144x256 .f32 := addf main_v5 main_v7
  let main_v9 : FVec F S262144x256 .f32 := fn_relu (F := F) main_v8
  let main_v10 : FVec F S1x256x97 .f32 := (extractStridedSlice S1x256x97 ![3, 0, 0] · slices_S4x256x97_S1x256x97_3_0_0) main_arg6
  let main_v11 : FVec F S256x97 .f32 := shapeCast S256x97 main_v10 shapeCasts_S1x256x97_S256x97
  let main_v12 : FVec F S262144x97 .f32 := (fun l r => Host.dotGeneral dot_S262144x256_S256x97_S262144x97_1_0_0_1_n_n none l r) main_v9 main_v11
  let main_v13 : FVec F S1x97 .f32 := (extractStridedSlice S1x97 ![3, 0] · slices_S4x97_S1x97_3_0) main_arg7
  let main_v14 : FVec F S97 .f32 := shapeCast S97 main_v13 shapeCasts_S1x97_S97
  let main_v15 : FVec F S1x97 .f32 := broadcastInDim S1x97 ![1] bcast_S97_S1x97_1 main_v14
  let main_v16 : FVec F S262144x97 .f32 := broadcastInDim S262144x97 ![0, 1] bcast_S1x97_S262144x97_0_1 main_v15
  let main_v17 : FVec F S262144x97 .f32 := addf main_v12 main_v16
  let main_v18 : FVec F S1x256x97 .f32 := (extractStridedSlice S1x256x97 ![2, 0, 0] · slices_S4x256x97_S1x256x97_2_0_0) main_arg6
  let main_v19 : FVec F S256x97 .f32 := shapeCast S256x97 main_v18 shapeCasts_S1x256x97_S256x97
  let main_v20 : FVec F S262144x97 .f32 := (fun l r => Host.dotGeneral dot_S262144x256_S256x97_S262144x97_1_0_0_1_n_n none l r) main_v9 main_v19
  let main_v21 : FVec F S1x97 .f32 := (extractStridedSlice S1x97 ![2, 0] · slices_S4x97_S1x97_2_0) main_arg7
  let main_v22 : FVec F S97 .f32 := shapeCast S97 main_v21 shapeCasts_S1x97_S97
  let main_v23 : FVec F S1x97 .f32 := broadcastInDim S1x97 ![1] bcast_S97_S1x97_1 main_v22
  fn_part1 (F := F) main_arg3 main_arg5 main_arg6 main_arg7 main_arg9 main_v9 main_v17 main_v20 main_v23
-- ==== Kernel.lean ====
abbrev S262144x64 : Shape := ⟨2, ![262144, 64]⟩
abbrev S262144x1 : Shape := ⟨2, ![262144, 1]⟩
abbrev S64x256 : Shape := ⟨2, ![64, 256]⟩
abbrev S256 : Shape := ⟨1, ![256]⟩
abbrev S256x256 : Shape := ⟨2, ![256, 256]⟩
abbrev S4x256x97 : Shape := ⟨3, ![4, 256, 97]⟩
abbrev S4x97 : Shape := ⟨2, ![4, 97]⟩
abbrev S256x4 : Shape := ⟨2, ![256, 4]⟩
abbrev S4 : Shape := ⟨1, ![4]⟩
abbrev S_ : Shape := ⟨0, ![]⟩
abbrev S256x7 : Shape := ⟨2, ![256, 7]⟩
abbrev S1x256x97 : Shape := ⟨3, ![1, 256, 97]⟩
abbrev S256x97 : Shape := ⟨2, ![256, 97]⟩
abbrev S256x1 : Shape := ⟨2, ![256, 1]⟩
abbrev S256x448 : Shape := ⟨2, ![256, 448]⟩
abbrev S64x1x4096 : Shape := ⟨3, ![64, 1, 4096]⟩
abbrev S4096x64 : Shape := ⟨2, ![4096, 64]⟩
abbrev S1x1x4096 : Shape := ⟨3, ![1, 1, 4096]⟩
abbrev S256x4096 : Shape := ⟨2, ![256, 4096]⟩
abbrev S448x4096 : Shape := ⟨2, ![448, 4096]⟩
abbrev S1x4096 : Shape := ⟨2, ![1, 4096]⟩
abbrev S97x4096 : Shape := ⟨2, ![97, 4096]⟩
abbrev S32x4096 : Shape := ⟨2, ![32, 4096]⟩
abbrev S33x4096 : Shape := ⟨2, ![33, 4096]⟩
abbrev S40x1 : Shape := ⟨2, ![40, 1]⟩
abbrev S1x64 : Shape := ⟨2, ![1, 64]⟩
abbrev S40x64 : Shape := ⟨2, ![40, 64]⟩
abbrev S64x4096 : Shape := ⟨2, ![64, 4096]⟩
abbrev S40x4096 : Shape := ⟨2, ![40, 4096]⟩
abbrev S32x1 : Shape := ⟨2, ![32, 1]⟩
abbrev S31x4096 : Shape := ⟨2, ![31, 4096]⟩
abbrev S224x4096 : Shape := ⟨2, ![224, 4096]⟩
abbrev S56x1 : Shape := ⟨2, ![56, 1]⟩
abbrev S1x224 : Shape := ⟨2, ![1, 224]⟩
abbrev S56x224 : Shape := ⟨2, ![56, 224]⟩
abbrev S56x4096 : Shape := ⟨2, ![56, 4096]⟩

abbrev nBuf : Space → Nat
  | .hbm => 36
  | .vmem => 9
  | .smem => 0
  | _ => 0

abbrev bufTy : (tb : Table) → Fin (tcTables nBuf tb) → BufTy
  | .hbm, ⟨0, _⟩ => ⟨S262144x64, .f32⟩
  | .hbm, ⟨1, _⟩ => ⟨S262144x1, .f32⟩
  | .hbm, ⟨2, _⟩ => ⟨S64x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S4x256x97, .f32⟩
  | .hbm, ⟨7, _⟩ => ⟨S4x97, .f32⟩
  | .hbm, ⟨8, _⟩ => ⟨S256x4, .f32⟩
  | .hbm, ⟨9, _⟩ => ⟨S4, .f32⟩
  | .hbm, ⟨10, _⟩ => ⟨S_, .f32⟩
  | .hbm, ⟨11, _⟩ => ⟨S256x7, .f32⟩
  | .hbm, ⟨12, _⟩ => ⟨S1x256x97, .f32⟩
  | .hbm, ⟨13, _⟩ => ⟨S256x97, .f32⟩
  | .hbm, ⟨14, _⟩ => ⟨S1x256x97, .f32⟩
  | .hbm, ⟨15, _⟩ => ⟨S256x97, .f32⟩
  | .hbm, ⟨16, _⟩ => ⟨S1x256x97, .f32⟩
  | .hbm, ⟨17, _⟩ => ⟨S256x97, .f32⟩
  | .hbm, ⟨18, _⟩ => ⟨S1x256x97, .f32⟩
  | .hbm, ⟨19, _⟩ => ⟨S256x97, .f32⟩
  | .hbm, ⟨20, _⟩ => ⟨S256x1, .f32⟩
  | .hbm, ⟨21, _⟩ => ⟨S_, .f32⟩
  | .hbm, ⟨22, _⟩ => ⟨S256x7, .f32⟩
  | .hbm, ⟨23, _⟩ => ⟨S256x1, .f32⟩
  | .hbm, ⟨24, _⟩ => ⟨S_, .f32⟩
  | .hbm, ⟨25, _⟩ => ⟨S256x7, .f32⟩
  | .hbm, ⟨26, _⟩ => ⟨S256x1, .f32⟩
  | .hbm, ⟨27, _⟩ => ⟨S_, .f32⟩
  | .hbm, ⟨28, _⟩ => ⟨S256x7, .f32⟩
  | .hbm, ⟨29, _⟩ => ⟨S256x1, .f32⟩
  | .hbm, ⟨30, _⟩ => ⟨S_, .f32⟩
  | .hbm, ⟨31, _⟩ => ⟨S256x7, .f32⟩
  | .hbm, ⟨32, _⟩ => ⟨S256x448, .f32⟩
  | .hbm, ⟨33, _⟩ => ⟨S64x1x4096, .f32⟩
  | .hbm, ⟨34, _⟩ => ⟨S64x1x4096, .f32⟩
  | .hbm, ⟨35, _⟩ => ⟨S262144x1, .f32⟩
  | .local _ .vmem, ⟨0, _⟩ => ⟨S4096x64, .f32⟩
  | .local _ .vmem, ⟨1, _⟩ => ⟨S4096x64, .f32⟩
  | .local _ .vmem, ⟨2, _⟩ => ⟨S1x1x4096, .f32⟩
  | .local _ .vmem, ⟨3, _⟩ => ⟨S1x1x4096, .f32⟩
  | .local _ .vmem, ⟨4, _⟩ => ⟨S64x256, .f32⟩
  | .local _ .vmem, ⟨5, _⟩ => ⟨S256x256, .f32⟩
  | .local _ .vmem, ⟨6, _⟩ => ⟨S256x448, .f32⟩
  | .local _ .vmem, ⟨7, _⟩ => ⟨S1x1x4096, .f32⟩
  | .local _ .vmem, ⟨8, _⟩ => ⟨S1x1x4096, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S262144x64 : Shape := ⟨2, ![262144, 64]⟩
abbrev S262144x1 : Shape := ⟨2, ![262144, 1]⟩
abbrev S64x256 : Shape := ⟨2, ![64, 256]⟩
abbrev S256 : Shape := ⟨1, ![256]⟩
abbrev S256x256 : Shape := ⟨2, ![256, 256]⟩
abbrev S4x256x97 : Shape := ⟨3, ![4, 256, 97]⟩
abbrev S4x97 : Shape := ⟨2, ![4, 97]⟩
abbrev S256x4 : Shape := ⟨2, ![256, 4]⟩
abbrev S4 : Shape := ⟨1, ![4]⟩
abbrev S262144x256 : Shape := ⟨2, ![262144, 256]⟩
abbrev S1x256 : Shape := ⟨2, ![1, 256]⟩
abbrev S_ : Shape := ⟨0, ![]⟩
abbrev S262144x4 : Shape := ⟨2, ![262144, 4]⟩
abbrev S1x4 : Shape := ⟨2, ![1, 4]⟩
abbrev S262144 : Shape := ⟨1, ![262144]⟩
abbrev S1x256x97 : Shape := ⟨3, ![1, 256, 97]⟩
abbrev S256x97 : Shape := ⟨2, ![256, 97]⟩
abbrev S262144x97 : Shape := ⟨2, ![262144, 97]⟩
abbrev S1x97 : Shape := ⟨2, ![1, 97]⟩
abbrev S97 : Shape := ⟨1, ![97]⟩
abbrev S262144x32 : Shape := ⟨2, ![262144, 32]⟩
abbrev S262144x33 : Shape := ⟨2, ![262144, 33]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 1234
  | .vmem => 0
  | .smem => 0
  | _ => 0

abbrev hbmTy0_0 (i : Nat) : BufTy := match i % 128 with
  | 0 => ⟨S262144x64, .f32⟩
  | 1 => ⟨S262144x1, .f32⟩
  | 2 => ⟨S64x256, .f32⟩
  | 3 => ⟨S256, .f32⟩
  | 4 => ⟨S256x256, .f32⟩
  | 5 => ⟨S256, .f32⟩
  | 6 => ⟨S4x256x97, .f32⟩
  | 7 => ⟨S4x97, .f32⟩
  | 8 => ⟨S256x4, .f32⟩
  | 9 => ⟨S4, .f32⟩
  | 10 => ⟨S262144x256, .f32⟩
  | 11 => ⟨S1x256, .f32⟩
  | 12 => ⟨S262144x256, .f32⟩
  | 13 => ⟨S262144x256, .f32⟩
  | 14 => ⟨S_, .f32⟩
  | 15 => ⟨S262144x256, .f32⟩
  | 16 => ⟨S262144x256, .f32⟩
  | 17 => ⟨S262144x256, .f32⟩
  | 18 => ⟨S1x256, .f32⟩
  | 19 => ⟨S262144x256, .f32⟩
  | 20 => ⟨S262144x256, .f32⟩
  | 21 => ⟨S_, .f32⟩
  | 22 => ⟨S262144x256, .f32⟩
  | 23 => ⟨S262144x256, .f32⟩
  | 24 => ⟨S262144x4, .f32⟩
  | 25 => ⟨S1x4, .f32⟩
  | 26 => ⟨S262144x4, .f32⟩
  | 27 => ⟨S262144x4, .f32⟩
  | 28 => ⟨S262144x1, .f32⟩
  | 29 => ⟨S262144x1, .f32⟩
  | 30 => ⟨S262144x1, .f32⟩
  | 31 => ⟨S262144x1, .f32⟩
  | 32 => ⟨S262144x1, .f32⟩
  | 33 => ⟨S262144, .f32⟩
  | 34 => ⟨S1x256x97, .f32⟩
  | 35 => ⟨S256x97, .f32⟩
  | 36 => ⟨S262144x97, .f32⟩
  | 37 => ⟨S1x97, .f32⟩
  | 38 => ⟨S97, .f32⟩
  | 39 => ⟨S1x97, .f32⟩
  | 40 => ⟨S262144x97, .f32⟩
  | 41 => ⟨S262144x97, .f32⟩
  | 42 => ⟨S262144x32, .f32⟩
  | 43 => ⟨S_, .f32⟩
  | 44 => ⟨S262144, .f32⟩
  | 45 => ⟨S_, .f32⟩
  | 46 => ⟨S262144, .f32⟩
  | 47 => ⟨S262144, .f32⟩
  | 48 => ⟨S262144x1, .f32⟩
  | 49 => ⟨S262144x32, .f32⟩
  | 50 => ⟨S262144x32, .f32⟩
  | 51 => ⟨S262144x32, .f32⟩
  | 52 => ⟨S_, .f32⟩
  | 53 => ⟨S262144, .f32⟩
  | 54 => ⟨S262144x1, .f32⟩
  | 55 => ⟨S262144x32, .f32⟩
  | 56 => ⟨S262144x32, .f32⟩
  | 57 => ⟨S_, .f32⟩
  | 58 => ⟨S262144x32, .f32⟩
  | 59 => ⟨S262144x32, .f32⟩
  | 60 => ⟨S_, .f32⟩
  | 61 => ⟨S262144x32, .f32⟩
  | 62 => ⟨S262144x32, .f32⟩
  | 63 => ⟨S262144x32, .f32⟩
  | 64 => ⟨S_, .f32⟩
  | 65 => ⟨S262144, .f32⟩
  | 66 => ⟨S_, .f32⟩
  | 67 => ⟨S262144, .f32⟩
  | 68 => ⟨S262144, .f32⟩
  | 69 => ⟨S262144x1, .f32⟩
  | 70 => ⟨S262144x32, .f32⟩
  | 71 => ⟨S262144x32, .f32⟩
  | 72 => ⟨S262144x32, .f32⟩
  | 73 => ⟨S_, .f32⟩
  | 74 => ⟨S262144, .f32⟩
  | 75 => ⟨S262144x1, .f32⟩
  | 76 => ⟨S262144x32, .f32⟩
  | 77 => ⟨S262144x32, .f32⟩
  | 78 => ⟨S_, .f32⟩
  | 79 => ⟨S262144x32, .f32⟩
  | 80 => ⟨S262144x32, .f32⟩
  | 81 => ⟨S_, .f32⟩
  | 82 => ⟨S262144x32, .f32⟩
  | 83 => ⟨S262144x32, .f32⟩
  | 84 => ⟨S262144x33, .f32⟩
  | 85 => ⟨S_, .f32⟩
  | 86 => ⟨S262144x33, .f32⟩
  | 87 => ⟨S262144x33, .f32⟩
  | 88 => ⟨S_, .f32⟩
  | 89 => ⟨S262144x33, .f32⟩
  | 90 => ⟨S262144x33, .f32⟩
  | 91 => ⟨S262144x33, .f32⟩
  | 92 => ⟨S262144x33, .f32⟩
  | 93 => ⟨S262144x33, .i1⟩
  | 94 => ⟨S262144x33, .f32⟩
  | 95 => ⟨S262144x33, .f32⟩
  | 96 => ⟨S262144x33, .f32⟩
  | 97 => ⟨S262144x33, .f32⟩
  | 98 => ⟨S262144x33, .f32⟩
  | 99 => ⟨S262144x33, .f32⟩
  | 100 => ⟨S262144x33, .f32⟩
  | 101 => ⟨S262144x33, .f32⟩
  | 102 => ⟨S_, .f32⟩
  | 103 => ⟨S262144x33, .f32⟩
  | 104 => ⟨S262144x33, .f32⟩
  | 105 => ⟨S_, .f32⟩
  | 106 => ⟨S_, .f32⟩
  | 107 => ⟨S262144x32, .f32⟩
  | 108 => ⟨S_, .i32⟩
  | 109 => ⟨S_, .f32⟩
  | 110 => ⟨S262144x33, .f32⟩
  | 111 => ⟨S_, .f32⟩
  | 112 => ⟨S262144x33, .f32⟩
  | 113 => ⟨S262144x33, .f32⟩
  | 114 => ⟨S_, .f32⟩
  | 115 => ⟨S_, .f32⟩
  | 116 => ⟨S262144x32, .f32⟩
  | 117 => ⟨S_, .i32⟩
  | 118 => ⟨S_, .f32⟩
  | 119 => ⟨S262144x33, .f32⟩
  | 120 => ⟨S_, .f32⟩
  | 121 => ⟨S262144x33, .f32⟩
  | 122 => ⟨S262144x33, .f32⟩
  | 123 => ⟨S262144x1, .f32⟩
  | 124 => ⟨S262144x33, .f32⟩
  | 125 => ⟨S262144x33, .i1⟩
  | 126 => ⟨S262144x33, .i32⟩
  | 127 => ⟨S_, .i32⟩
  | _ => ⟨S262144x64, .f32⟩

abbrev hbmTy0_1 (i : Nat) : BufTy := match i % 128 with
  | 0 => ⟨S262144, .i32⟩
  | 1 => ⟨S_, .i32⟩
  | 2 => ⟨S262144, .i32⟩
  | 3 => ⟨S262144, .i32⟩
  | 4 => ⟨S_, .i32⟩
  | 5 => ⟨S_, .i32⟩
  | 6 => ⟨S_, .i32⟩
  | 7 => ⟨S262144, .i32⟩
  | 8 => ⟨S262144, .i32⟩
  | 9 => ⟨S_, .i32⟩
  | 10 => ⟨S262144, .i32⟩
  | 11 => ⟨S262144, .i32⟩
  | 12 => ⟨S262144x32, .f32⟩
  | 13 => ⟨S262144x1, .i32⟩
  | 14 => ⟨S_, .i32⟩
  | 15 => ⟨S262144x1, .i32⟩
  | 16 => ⟨S262144x1, .i1⟩
  | 17 => ⟨S_, .i32⟩
  | 18 => ⟨S262144x1, .i32⟩
  | 19 => ⟨S262144x1, .i32⟩
  | 20 => ⟨S262144x1, .i32⟩
  | 21 => ⟨S262144x1x1, .i32⟩
  | 22 => ⟨S1, .i32⟩
  | 23 => ⟨S_, .i32⟩
  | 24 => ⟨S262144x1x1, .i32⟩
  | 25 => ⟨S262144x1x1, .i1⟩
  | 26 => ⟨S1x1x1, .i32⟩
  | 27 => ⟨S262144x1x1, .i32⟩
  | 28 => ⟨S262144x1x1, .i1⟩
  | 29 => ⟨S262144x1x1, .i1⟩
  | 30 => ⟨S_, .i1⟩
  | 31 => ⟨S262144x1, .i1⟩
  | 32 => ⟨S262144x1, .f32⟩
  | 33 => ⟨S_, .f32⟩
  | 34 => ⟨S262144x1, .f32⟩
  | 35 => ⟨S262144x1, .f32⟩
  | 36 => ⟨S262144, .f32⟩
  | 37 => ⟨S262144x1, .i32⟩
  | 38 => ⟨S_, .i32⟩
  | 39 => ⟨S262144x1, .i32⟩
  | 40 => ⟨S262144x1, .i1⟩
  | 41 => ⟨S_, .i32⟩
  | 42 => ⟨S262144x1, .i32⟩
  | 43 => ⟨S262144x1, .i32⟩
  | 44 => ⟨S262144x1, .i32⟩
  | 45 => ⟨S262144x1x1, .i32⟩
  | 46 => ⟨S1, .i32⟩
  | 47 => ⟨S_, .i32⟩
  | 48 => ⟨S262144x1x1, .i32⟩
  | 49 => ⟨S262144x1x1, .i1⟩
  | 50 => ⟨S1x1x1, .i32⟩
  | 51 => ⟨S262144x1x1, .i32⟩
  | 52 => ⟨S262144x1x1, .i1⟩
  | 53 => ⟨S262144x1x1, .i1⟩
  | 54 => ⟨S_, .i1⟩
  | 55 => ⟨S262144x1, .i1⟩
  | 56 => ⟨S262144x1, .f32⟩
  | 57 => ⟨S_, .f32⟩
  | 58 => ⟨S262144x1, .f32⟩
  | 59 => ⟨S262144x1, .f32⟩
  | 60 => ⟨S262144, .f32⟩
  | 61 => ⟨S262144x32, .f32⟩
  | 62 => ⟨S262144x1, .i32⟩
  | 63 => ⟨S_, .i32⟩
  | 64 => ⟨S262144x1, .i32⟩
  | 65 => ⟨S262144x1, .i1⟩
  | 66 => ⟨S_, .i32⟩
  | 67 => ⟨S262144x1, .i32⟩
  | 68 => ⟨S262144x1, .i32⟩
  | 69 => ⟨S262144x1, .i32⟩
  | 70 => ⟨S262144x1x1, .i32⟩
  | 71 => ⟨S1, .i32⟩
  | 72 => ⟨S_, .i32⟩
  | 73 => ⟨S262144x1x1, .i32⟩
  | 74 => ⟨S262144x1x1, .i1⟩
  | 75 => ⟨S1x1x1, .i32⟩
  | 76 => ⟨S262144x1x1, .i32⟩
  | 77 => ⟨S262144x1x1, .i1⟩
  | 78 => ⟨S262144x1x1, .i1⟩
  | 79 => ⟨S_, .i1⟩
  | 80 => ⟨S262144x1, .i1⟩
  | 81 => ⟨S262144x1, .f32⟩
  | 82 => ⟨S_, .f32⟩
  | 83 => ⟨S262144x1, .f32⟩
  | 84 => ⟨S262144x1, .f32⟩
  | 85 => ⟨S262144, .f32⟩
  | 86 => ⟨S262144x1, .i32⟩
  | 87 => ⟨S_, .i32⟩
  | 88 => ⟨S262144x1, .i32⟩
  | 89 => ⟨S262144x1, .i1⟩
  | 90 => ⟨S_, .i32⟩
  | 91 => ⟨S262144x1, .i32⟩
  | 92 => ⟨S262144x1, .i32⟩
  | 93 => ⟨S262144x1, .i32⟩
  | 94 => ⟨S262144x1x1, .i32⟩
  | 95 => ⟨S1, .i32⟩
  | 96 => ⟨S_, .i32⟩
  | 97 => ⟨S262144x1x1, .i32⟩
  | 98 => ⟨S262144x1x1, .i1⟩
  | 99 => ⟨S1x1x1, .i32⟩
  | 100 => ⟨S262144x1x1, .i32⟩
  | 101 => ⟨S262144x1x1, .i1⟩
  | 102 => ⟨S262144x1x1, .i1⟩
  | 103 => ⟨S_, .i1⟩
  | 104 => ⟨S262144x1, .i1⟩
  | 105 => ⟨S262144x1, .f32⟩
  | 106 => ⟨S_, .f32⟩
  | 107 => ⟨S262144x1, .f32⟩
  | 108 => ⟨S262144x1, .f32⟩
  | 109 => ⟨S262144, .f32⟩
  | 110 => ⟨S262144x32, .f32⟩
  | 111 => ⟨S262144x1, .i32⟩
  | 112 => ⟨S_, .i32⟩
  | 113 => ⟨S262144x1, .i32⟩
  | 114 => ⟨S262144x1, .i1⟩
  | 115 => ⟨S_, .i32⟩
  | 116 => ⟨S262144x1, .i32⟩
  | 117 => ⟨S262144x1, .i32⟩
  | 118 => ⟨S262144x1, .i32⟩
  | 119 => ⟨S262144x1x1, .i32⟩
  | 120 => ⟨S1, .i32⟩
  | 121 => ⟨S_, .i32⟩
  | 122 => ⟨S262144x1x1, .i32⟩
  | 123 => ⟨S262144x1x1, .i1⟩
  | 124 => ⟨S1x1x1, .i32⟩
  | 125 => ⟨S262144x1x1, .i32⟩
  | 126 => ⟨S262144x1x1, .i1⟩
  | 127 => ⟨S262144x1x1, .i1⟩
  | _ => ⟨S262144x64, .f32⟩

abbrev hbmTy0_2 (i : Nat) : BufTy := match i % 128 with
  | 0 => ⟨S_, .i1⟩
  | 1 => ⟨S262144x1, .i1⟩
  | 2 => ⟨S262144x1, .f32⟩
  | 3 => ⟨S_, .f32⟩
  | 4 => ⟨S262144x1, .f32⟩
  | 5 => ⟨S262144x1, .f32⟩
  | 6 => ⟨S262144, .f32⟩
  | 7 => ⟨S262144x32, .f32⟩
  | 8 => ⟨S262144x1, .i32⟩
  | 9 => ⟨S_, .i32⟩
  | 10 => ⟨S262144x1, .i32⟩
  | 11 => ⟨S262144x1, .i1⟩
  | 12 => ⟨S_, .i32⟩
  | 13 => ⟨S262144x1, .i32⟩
  | 14 => ⟨S262144x1, .i32⟩
  | 15 => ⟨S262144x1, .i32⟩
  | 16 => ⟨S262144x1x1, .i32⟩
  | 17 => ⟨S1, .i32⟩
  | 18 => ⟨S_, .i32⟩
  | 19 => ⟨S262144x1x1, .i32⟩
  | 20 => ⟨S262144x1x1, .i1⟩
  | 21 => ⟨S1x1x1, .i32⟩
  | 22 => ⟨S262144x1x1, .i32⟩
  | 23 => ⟨S262144x1x1, .i1⟩
  | 24 => ⟨S262144x1x1, .i1⟩
  | 25 => ⟨S_, .i1⟩
  | 26 => ⟨S262144x1, .i1⟩
  | 27 => ⟨S262144x1, .f32⟩
  | 28 => ⟨S_, .f32⟩
  | 29 => ⟨S262144x1, .f32⟩
  | 30 => ⟨S262144x1, .f32⟩
  | 31 => ⟨S262144, .f32⟩
  | 32 => ⟨S262144, .f32⟩
  | 33 => ⟨S262144, .f32⟩
  | 34 => ⟨S_, .f32⟩
  | 35 => ⟨S_, .f32⟩
  | 36 => ⟨S_, .f32⟩
  | 37 => ⟨S262144, .f32⟩
  | 38 => ⟨S262144, .f32⟩
  | 39 => ⟨S_, .f32⟩
  | 40 => ⟨S262144, .f32⟩
  | 41 => ⟨S262144, .f32⟩
  | 42 => ⟨S262144, .f32⟩
  | 43 => ⟨S_, .f32⟩
  | 44 => ⟨S262144, .f32⟩
  | 45 => ⟨S262144, .f32⟩
  | 46 => ⟨S262144, .f32⟩
  | 47 => ⟨S262144, .f32⟩
  | 48 => ⟨S262144, .f32⟩
  | 49 => ⟨S262144, .f32⟩
  | 50 => ⟨S262144, .f32⟩
  | 51 => ⟨S262144, .f32⟩
  | 52 => ⟨S262144, .f32⟩
  | 53 => ⟨S_, .f32⟩
  | 54 => ⟨S262144, .f32⟩
  | 55 => ⟨S262144, .f32⟩
  | 56 => ⟨S262144, .f32⟩
  | 57 => ⟨S262144, .f32⟩
  | 58 => ⟨S262144, .f32⟩
  | 59 => ⟨S262144, .f32⟩
  | 60 => ⟨S262144, .f32⟩
  | 61 => ⟨S_, .f32⟩
  | 62 => ⟨S262144, .f32⟩
  | 63 => ⟨S262144, .i1⟩
  | 64 => ⟨S_, .f32⟩
  | 65 => ⟨S262144, .f32⟩
  | 66 => ⟨S262144, .i1⟩
  | 67 => ⟨S262144, .i1⟩
  | 68 => ⟨S262144, .f32⟩
  | 69 => ⟨S1x256x97, .f32⟩
  | 70 => ⟨S256x97, .f32⟩
  | 71 => ⟨S262144x97, .f32⟩
  | 72 => ⟨S1x97, .f32⟩
  | 73 => ⟨S97, .f32⟩
  | 74 => ⟨S1x97, .f32⟩
  | 75 => ⟨S262144x97, .f32⟩
  | 76 => ⟨S262144x97, .f32⟩
  | 77 => ⟨S262144x32, .f32⟩
  | 78 => ⟨S_, .f32⟩
  | 79 => ⟨S262144, .f32⟩
  | 80 => ⟨S_, .f32⟩
  | 81 => ⟨S262144, .f32⟩
  | 82 => ⟨S262144, .f32⟩
  | 83 => ⟨S262144x1, .f32⟩
  | 84 => ⟨S262144x32, .f32⟩
  | 85 => ⟨S262144x32, .f32⟩
  | 86 => ⟨S262144x32, .f32⟩
  | 87 => ⟨S_, .f32⟩
  | 88 => ⟨S262144, .f32⟩
  | 89 => ⟨S262144x1, .f32⟩
  | 90 => ⟨S262144x32, .f32⟩
  | 91 => ⟨S262144x32, .f32⟩
  | 92 => ⟨S_, .f32⟩
  | 93 => ⟨S262144x32, .f32⟩
  | 94 => ⟨S262144x32, .f32⟩
  | 95 => ⟨S_, .f32⟩
  | 96 => ⟨S262144x32, .f32⟩
  | 97 => ⟨S262144x32, .f32⟩
  | 98 => ⟨S262144x32, .f32⟩
  | 99 => ⟨S_, .f32⟩
  | 100 => ⟨S262144, .f32⟩
  | 101 => ⟨S_, .f32⟩
  | 102 => ⟨S262144, .f32⟩
  | 103 => ⟨S262144, .f32⟩
  | 104 => ⟨S262144x1, .f32⟩
  | 105 => ⟨S262144x32, .f32⟩
  | 106 => ⟨S262144x32, .f32⟩
  | 107 => ⟨S262144x32, .f32⟩
  | 108 => ⟨S_, .f32⟩
  | 109 => ⟨S262144, .f32⟩
  | 110 => ⟨S262144x1, .f32⟩
  | 111 => ⟨S262144x32, .f32⟩
  | 112 => ⟨S262144x32, .f32⟩
  | 113 => ⟨S_, .f32⟩
  | 114 => ⟨S262144x32, .f32⟩
  | 115 => ⟨S262144x32, .f32⟩
  | 116 => ⟨S_, .f32⟩
  | 117 => ⟨S262144x32, .f32⟩
  | 118 => ⟨S262144x32, .f32⟩
  | 119 => ⟨S262144x33, .f32⟩
  | 120 => ⟨S_, .f32⟩
  | 121 => ⟨S262144x33, .f32⟩
  | 122 => ⟨S262144x33, .f32⟩
  | 123 => ⟨S_, .f32⟩
  | 124 => ⟨S262144x33, .f32⟩
  | 125 => ⟨S262144x33, .f32⟩
  | 126 => ⟨S262144x33, .f32⟩
  | 127 => ⟨S262144x33, .f32⟩
  | _ => ⟨S262144x64, .f32⟩

abbrev hbmTy0_3 (i : Nat) : BufTy := match i % 128 with
  | 0 => ⟨S262144x33, .i1⟩
  | 1 => ⟨S262144x33, .f32⟩
  | 2 => ⟨S262144x33, .f32⟩
  | 3 => ⟨S262144x33, .f32⟩
  | 4 => ⟨S262144x33, .f32⟩
  | 5 => ⟨S262144x33, .f32⟩
  | 6 => ⟨S262144x33, .f32⟩
  | 7 => ⟨S262144x33, .f32⟩
  | 8 => ⟨S262144x33, .f32⟩
  | 9 => ⟨S_, .f32⟩
  | 10 => ⟨S262144x33, .f32⟩
  | 11 => ⟨S262144x33, .f32⟩
  | 12 => ⟨S_, .f32⟩
  | 13 => ⟨S_, .f32⟩
  | 14 => ⟨S262144x32, .f32⟩
  | 15 => ⟨S_, .i32⟩
  | 16 => ⟨S_, .f32⟩
  | 17 => ⟨S262144x33, .f32⟩
  | 18 => ⟨S_, .f32⟩
  | 19 => ⟨S262144x33, .f32⟩
  | 20 => ⟨S262144x33, .f32⟩
  | 21 => ⟨S_, .f32⟩
  | 22 => ⟨S_, .f32⟩
  | 23 => ⟨S262144x32, .f32⟩
  | 24 => ⟨S_, .i32⟩
  | 25 => ⟨S_, .f32⟩
  | 26 => ⟨S262144x33, .f32⟩
  | 27 => ⟨S_, .f32⟩
  | 28 => ⟨S262144x33, .f32⟩
  | 29 => ⟨S262144x33, .f32⟩
  | 30 => ⟨S262144x1, .f32⟩
  | 31 => ⟨S262144x33, .f32⟩
  | 32 => ⟨S262144x33, .i1⟩
  | 33 => ⟨S262144x33, .i32⟩
  | 34 => ⟨S_, .i32⟩
  | 35 => ⟨S262144, .i32⟩
  | 36 => ⟨S_, .i32⟩
  | 37 => ⟨S262144, .i32⟩
  | 38 => ⟨S262144, .i32⟩
  | 39 => ⟨S_, .i32⟩
  | 40 => ⟨S_, .i32⟩
  | 41 => ⟨S_, .i32⟩
  | 42 => ⟨S262144, .i32⟩
  | 43 => ⟨S262144, .i32⟩
  | 44 => ⟨S_, .i32⟩
  | 45 => ⟨S262144, .i32⟩
  | 46 => ⟨S262144, .i32⟩
  | 47 => ⟨S262144x32, .f32⟩
  | 48 => ⟨S262144x1, .i32⟩
  | 49 => ⟨S_, .i32⟩
  | 50 => ⟨S262144x1, .i32⟩
  | 51 => ⟨S262144x1, .i1⟩
  | 52 => ⟨S_, .i32⟩
  | 53 => ⟨S262144x1, .i32⟩
  | 54 => ⟨S262144x1, .i32⟩
  | 55 => ⟨S262144x1, .i32⟩
  | 56 => ⟨S262144x1x1, .i32⟩
  | 57 => ⟨S1, .i32⟩
  | 58 => ⟨S_, .i32⟩
  | 59 => ⟨S262144x1x1, .i32⟩
  | 60 => ⟨S262144x1x1, .i1⟩
  | 61 => ⟨S1x1x1, .i32⟩
  | 62 => ⟨S262144x1x1, .i32⟩
  | 63 => ⟨S262144x1x1, .i1⟩
  | 64 => ⟨S262144x1x1, .i1⟩
  | 65 => ⟨S_, .i1⟩
  | 66 => ⟨S262144x1, .i1⟩
  | 67 => ⟨S262144x1, .f32⟩
  | 68 => ⟨S_, .f32⟩
  | 69 => ⟨S262144x1, .f32⟩
  | 70 => ⟨S262144x1, .f32⟩
  | 71 => ⟨S262144, .f32⟩
  | 72 => ⟨S262144x1, .i32⟩
  | 73 => ⟨S_, .i32⟩
  | 74 => ⟨S262144x1, .i32⟩
  | 75 => ⟨S262144x1, .i1⟩
  | 76 => ⟨S_, .i32⟩
  | 77 => ⟨S262144x1, .i32⟩
  | 78 => ⟨S262144x1, .i32⟩
  | 79 => ⟨S262144x1, .i32⟩
  | 80 => ⟨S262144x1x1, .i32⟩
  | 81 => ⟨S1, .i32⟩
  | 82 => ⟨S_, .i32⟩
  | 83 => ⟨S262144x1x1, .i32⟩
  | 84 => ⟨S262144x1x1, .i1⟩
  | 85 => ⟨S1x1x1, .i32⟩
  | 86 => ⟨S262144x1x1, .i32⟩
  | 87 => ⟨S262144x1x1, .i1⟩
  | 88 => ⟨S262144x1x1, .i1⟩
  | 89 => ⟨S_, .i1⟩
  | 90 => ⟨S262144x1, .i1⟩
  | 91 => ⟨S262144x1, .f32⟩
  | 92 => ⟨S_, .f32⟩
  | 93 => ⟨S262144x1, .f32⟩
  | 94 => ⟨S262144x1, .f32⟩
  | 95 => ⟨S262144, .f32⟩
  | 96 => ⟨S262144x32, .f32⟩
  | 97 => ⟨S262144x1, .i32⟩
  | 98 => ⟨S_, .i32⟩
  | 99 => ⟨S262144x1, .i32⟩
  | 100 => ⟨S262144x1, .i1⟩
  | 101 => ⟨S_, .i32⟩
  | 102 => ⟨S262144x1, .i32⟩
  | 103 => ⟨S262144x1, .i32⟩
  | 104 => ⟨S262144x1, .i32⟩
  | 105 => ⟨S262144x1x1, .i32⟩
  | 106 => ⟨S1, .i32⟩
  | 107 => ⟨S_, .i32⟩
  | 108 => ⟨S262144x1x1, .i32⟩
  | 109 => ⟨S262144x1x1, .i1⟩
  | 110 => ⟨S1x1x1, .i32⟩
  | 111 => ⟨S262144x1x1, .i32⟩
  | 112 => ⟨S262144x1x1, .i1⟩
  | 113 => ⟨S262144x1x1, .i1⟩
  | 114 => ⟨S_, .i1⟩
  | 115 => ⟨S262144x1, .i1⟩
  | 116 => ⟨S262144x1, .f32⟩
  | 117 => ⟨S_, .f32⟩
  | 118 => ⟨S262144x1, .f32⟩
  | 119 => ⟨S262144x1, .f32⟩
  | 120 => ⟨S262144, .f32⟩
  | 121 => ⟨S262144x1, .i32⟩
  | 122 => ⟨S_, .i32⟩
  | 123 => ⟨S262144x1, .i32⟩
  | 124 => ⟨S262144x1, .i1⟩
  | 125 => ⟨S_, .i32⟩
  | 126 => ⟨S262144x1, .i32⟩
  | 127 => ⟨S262144x1, .i32⟩
  | _ => ⟨S262144x64, .f32⟩

abbrev hbmTy0_4 (i : Nat) : BufTy := match i % 128 with
  | 0 => ⟨S262144x1, .i32⟩
  | 1 => ⟨S262144x1x1, .i32⟩
  | 2 => ⟨S1, .i32⟩
  | 3 => ⟨S_, .i32⟩
  | 4 => ⟨S262144x1x1, .i32⟩
  | 5 => ⟨S262144x1x1, .i1⟩
  | 6 => ⟨S1x1x1, .i32⟩
  | 7 => ⟨S262144x1x1, .i32⟩
  | 8 => ⟨S262144x1x1, .i1⟩
  | 9 => ⟨S262144x1x1, .i1⟩
  | 10 => ⟨S_, .i1⟩
  | 11 => ⟨S262144x1, .i1⟩
  | 12 => ⟨S262144x1, .f32⟩
  | 13 => ⟨S_, .f32⟩
  | 14 => ⟨S262144x1, .f32⟩
  | 15 => ⟨S262144x1, .f32⟩
  | 16 => ⟨S262144, .f32⟩
  | 17 => ⟨S262144x32, .f32⟩
  | 18 => ⟨S262144x1, .i32⟩
  | 19 => ⟨S_, .i32⟩
  | 20 => ⟨S262144x1, .i32⟩
  | 21 => ⟨S262144x1, .i1⟩
  | 22 => ⟨S_, .i32⟩
  | 23 => ⟨S262144x1, .i32⟩
  | 24 => ⟨S262144x1, .i32⟩
  | 25 => ⟨S262144x1, .i32⟩
  | 26 => ⟨S262144x1x1, .i32⟩
  | 27 => ⟨S1, .i32⟩
  | 28 => ⟨S_, .i32⟩
  | 29 => ⟨S262144x1x1, .i32⟩
  | 30 => ⟨S262144x1x1, .i1⟩
  | 31 => ⟨S1x1x1, .i32⟩
  | 32 => ⟨S262144x1x1, .i32⟩
  | 33 => ⟨S262144x1x1, .i1⟩
  | 34 => ⟨S262144x1x1, .i1⟩
  | 35 => ⟨S_, .i1⟩
  | 36 => ⟨S262144x1, .i1⟩
  | 37 => ⟨S262144x1, .f32⟩
  | 38 => ⟨S_, .f32⟩
  | 39 => ⟨S262144x1, .f32⟩
  | 40 => ⟨S262144x1, .f32⟩
  | 41 => ⟨S262144, .f32⟩
  | 42 => ⟨S262144x32, .f32⟩
  | 43 => ⟨S262144x1, .i32⟩
  | 44 => ⟨S_, .i32⟩
  | 45 => ⟨S262144x1, .i32⟩
  | 46 => ⟨S262144x1, .i1⟩
  | 47 => ⟨S_, .i32⟩
  | 48 => ⟨S262144x1, .i32⟩
  | 49 => ⟨S262144x1, .i32⟩
  | 50 => ⟨S262144x1, .i32⟩
  | 51 => ⟨S262144x1x1, .i32⟩
  | 52 => ⟨S1, .i32⟩
  | 53 => ⟨S_, .i32⟩
  | 54 => ⟨S262144x1x1, .i32⟩
  | 55 => ⟨S262144x1x1, .i1⟩
  | 56 => ⟨S1x1x1, .i32⟩
  | 57 => ⟨S262144x1x1, .i32⟩
  | 58 => ⟨S262144x1x1, .i1⟩
  | 59 => ⟨S262144x1x1, .i1⟩
  | 60 => ⟨S_, .i1⟩
  | 61 => ⟨S262144x1, .i1⟩
  | 62 => ⟨S262144x1, .f32⟩
  | 63 => ⟨S_, .f32⟩
  | 64 => ⟨S262144x1, .f32⟩
  | 65 => ⟨S262144x1, .f32⟩
  | 66 => ⟨S262144, .f32⟩
  | 67 => ⟨S262144, .f32⟩
  | 68 => ⟨S262144, .f32⟩
  | 69 => ⟨S_, .f32⟩
  | 70 => ⟨S_, .f32⟩
  | 71 => ⟨S_, .f32⟩
  | 72 => ⟨S262144, .f32⟩
  | 73 => ⟨S262144, .f32⟩
  | 74 => ⟨S_, .f32⟩
  | 75 => ⟨S262144, .f32⟩
  | 76 => ⟨S262144, .f32⟩
  | 77 => ⟨S262144, .f32⟩
  | 78 => ⟨S_, .f32⟩
  | 79 => ⟨S262144, .f32⟩
  | 80 => ⟨S262144, .f32⟩
  | 81 => ⟨S262144, .f32⟩
  | 82 => ⟨S262144, .f32⟩
  | 83 => ⟨S262144, .f32⟩
  | 84 => ⟨S262144, .f32⟩
  | 85 => ⟨S262144, .f32⟩
  | 86 => ⟨S262144, .f32⟩
  | 87 => ⟨S262144, .f32⟩
  | 88 => ⟨S_, .f32⟩
  | 89 => ⟨S262144, .f32⟩
  | 90 => ⟨S262144, .f32⟩
  | 91 => ⟨S262144, .f32⟩
  | 92 => ⟨S262144, .f32⟩
  | 93 => ⟨S262144, .f32⟩
  | 94 => ⟨S262144, .f32⟩
  | 95 => ⟨S262144, .f32⟩
  | 96 => ⟨S_, .f32⟩
  | 97 => ⟨S262144, .f32⟩
  | 98 => ⟨S262144, .i1⟩
  | 99 => ⟨S_, .f32⟩
  | 100 => ⟨S262144, .f32⟩
  | 101 => ⟨S262144, .i1⟩
  | 102 => ⟨S262144, .i1⟩
  | 103 => ⟨S262144, .f32⟩
  | 104 => ⟨S1x256x97, .f32⟩
  | 105 => ⟨S256x97, .f32⟩
  | 106 => ⟨S262144x97, .f32⟩
  | 107 => ⟨S1x97, .f32⟩
  | 108 => ⟨S97, .f32⟩
  | 109 => ⟨S1x97, .f32⟩
  | 110 => ⟨S262144x97, .f32⟩
  | 111 => ⟨S262144x97, .f32⟩
  | 112 => ⟨S262144x32, .f32⟩
  | 113 => ⟨S_, .f32⟩
  | 114 => ⟨S262144, .f32⟩
  | 115 => ⟨S_, .f32⟩
  | 116 => ⟨S262144, .f32⟩
  | 117 => ⟨S262144, .f32⟩
  | 118 => ⟨S262144x1, .f32⟩
  | 119 => ⟨S262144x32, .f32⟩
  | 120 => ⟨S262144x32, .f32⟩
  | 121 => ⟨S262144x32, .f32⟩
  | 122 => ⟨S_, .f32⟩
  | 123 => ⟨S262144, .f32⟩
  | 124 => ⟨S262144x1, .f32⟩
  | 125 => ⟨S262144x32, .f32⟩
  | 126 => ⟨S262144x32, .f32⟩
  | 127 => ⟨S_, .f32⟩
  | _ => ⟨S262144x64, .f32⟩

abbrev hbmTy0_5 (i : Nat) : BufTy := match i % 128 with
  | 0 => ⟨S262144x32, .f32⟩
  | 1 => ⟨S262144x32, .f32⟩
  | 2 => ⟨S_, .f32⟩
  | 3 => ⟨S262144x32, .f32⟩
  | 4 => ⟨S262144x32, .f32⟩
  | 5 => ⟨S262144x32, .f32⟩
  | 6 => ⟨S_, .f32⟩
  | 7 => ⟨S262144, .f32⟩
  | 8 => ⟨S_, .f32⟩
  | 9 => ⟨S262144, .f32⟩
  | 10 => ⟨S262144, .f32⟩
  | 11 => ⟨S262144x1, .f32⟩
  | 12 => ⟨S262144x32, .f32⟩
  | 13 => ⟨S262144x32, .f32⟩
  | 14 => ⟨S262144x32, .f32⟩
  | 15 => ⟨S_, .f32⟩
  | 16 => ⟨S262144, .f32⟩
  | 17 => ⟨S262144x1, .f32⟩
  | 18 => ⟨S262144x32, .f32⟩
  | 19 => ⟨S262144x32, .f32⟩
  | 20 => ⟨S_, .f32⟩
  | 21 => ⟨S262144x32, .f32⟩
  | 22 => ⟨S262144x32, .f32⟩
  | 23 => ⟨S_, .f32⟩
  | 24 => ⟨S262144x32, .f32⟩
  | 25 => ⟨S262144x32, .f32⟩
  | 26 => ⟨S262144x33, .f32⟩
  | 27 => ⟨S_, .f32⟩
  | 28 => ⟨S262144x33, .f32⟩
  | 29 => ⟨S262144x33, .f32⟩
  | 30 => ⟨S_, .f32⟩
  | 31 => ⟨S262144x33, .f32⟩
  | 32 => ⟨S262144x33, .f32⟩
  | 33 => ⟨S262144x33, .f32⟩
  | 34 => ⟨S262144x33, .f32⟩
  | 35 => ⟨S262144x33, .i1⟩
  | 36 => ⟨S262144x33, .f32⟩
  | 37 => ⟨S262144x33, .f32⟩
  | 38 => ⟨S262144x33, .f32⟩
  | 39 => ⟨S262144x33, .f32⟩
  | 40 => ⟨S262144x33, .f32⟩
  | 41 => ⟨S262144x33, .f32⟩
  | 42 => ⟨S262144x33, .f32⟩
  | 43 => ⟨S262144x33, .f32⟩
  | 44 => ⟨S_, .f32⟩
  | 45 => ⟨S262144x33, .f32⟩
  | 46 => ⟨S262144x33, .f32⟩
  | 47 => ⟨S_, .f32⟩
  | 48 => ⟨S_, .f32⟩
  | 49 => ⟨S262144x32, .f32⟩
  | 50 => ⟨S_, .i32⟩
  | 51 => ⟨S_, .f32⟩
  | 52 => ⟨S262144x33, .f32⟩
  | 53 => ⟨S_, .f32⟩
  | 54 => ⟨S262144x33, .f32⟩
  | 55 => ⟨S262144x33, .f32⟩
  | 56 => ⟨S_, .f32⟩
  | 57 => ⟨S_, .f32⟩
  | 58 => ⟨S262144x32, .f32⟩
  | 59 => ⟨S_, .i32⟩
  | 60 => ⟨S_, .f32⟩
  | 61 => ⟨S262144x33, .f32⟩
  | 62 => ⟨S_, .f32⟩
  | 63 => ⟨S262144x33, .f32⟩
  | 64 => ⟨S262144x33, .f32⟩
  | 65 => ⟨S262144x1, .f32⟩
  | 66 => ⟨S262144x33, .f32⟩
  | 67 => ⟨S262144x33, .i1⟩
  | 68 => ⟨S262144x33, .i32⟩
  | 69 => ⟨S_, .i32⟩
  | 70 => ⟨S262144, .i32⟩
  | 71 => ⟨S_, .i32⟩
  | 72 => ⟨S262144, .i32⟩
  | 73 => ⟨S262144, .i32⟩
  | 74 => ⟨S_, .i32⟩
  | 75 => ⟨S_, .i32⟩
  | 76 => ⟨S_, .i32⟩
  | 77 => ⟨S262144, .i32⟩
  | 78 => ⟨S262144, .i32⟩
  | 79 => ⟨S_, .i32⟩
  | 80 => ⟨S262144, .i32⟩
  | 81 => ⟨S262144, .i32⟩
  | 82 => ⟨S262144x32, .f32⟩
  | 83 => ⟨S262144x1, .i32⟩
  | 84 => ⟨S_, .i32⟩
  | 85 => ⟨S262144x1, .i32⟩
  | 86 => ⟨S262144x1, .i1⟩
  | 87 => ⟨S_, .i32⟩
  | 88 => ⟨S262144x1, .i32⟩
  | 89 => ⟨S262144x1, .i32⟩
  | 90 => ⟨S262144x1, .i32⟩
  | 91 => ⟨S262144x1x1, .i32⟩
  | 92 => ⟨S1, .i32⟩
  | 93 => ⟨S_, .i32⟩
  | 94 => ⟨S262144x1x1, .i32⟩
  | 95 => ⟨S262144x1x1, .i1⟩
  | 96 => ⟨S1x1x1, .i32⟩
  | 97 => ⟨S262144x1x1, .i32⟩
  | 98 => ⟨S262144x1x1, .i1⟩
  | 99 => ⟨S262144x1x1, .i1⟩
  | 100 => ⟨S_, .i1⟩
  | 101 => ⟨S262144x1, .i1⟩
  | 102 => ⟨S262144x1, .f32⟩
  | 103 => ⟨S_, .f32⟩
  | 104 => ⟨S262144x1, .f32⟩
  | 105 => ⟨S262144x1, .f32⟩
  | 106 => ⟨S262144, .f32⟩
  | 107 => ⟨S262144x1, .i32⟩
  | 108 => ⟨S_, .i32⟩
  | 109 => ⟨S262144x1, .i32⟩
  | 110 => ⟨S262144x1, .i1⟩
  | 111 => ⟨S_, .i32⟩
  | 112 => ⟨S262144x1, .i32⟩
  | 113 => ⟨S262144x1, .i32⟩
  | 114 => ⟨S262144x1, .i32⟩
  | 115 => ⟨S262144x1x1, .i32⟩
  | 116 => ⟨S1, .i32⟩
  | 117 => ⟨S_, .i32⟩
  | 118 => ⟨S262144x1x1, .i32⟩
  | 119 => ⟨S262144x1x1, .i1⟩
  | 120 => ⟨S1x1x1, .i32⟩
  | 121 => ⟨S262144x1x1, .i32⟩
  | 122 => ⟨S262144x1x1, .i1⟩
  | 123 => ⟨S262144x1x1, .i1⟩
  | 124 => ⟨S_, .i1⟩
  | 125 => ⟨S262144x1, .i1⟩
  | 126 => ⟨S262144x1, .f32⟩
  | 127 => ⟨S_, .f32⟩
  | _ => ⟨S262144x64, .f32⟩

abbrev hbmTy0_6 (i : Nat) : BufTy := match i % 128 with
  | 0 => ⟨S262144x1, .f32⟩
  | 1 => ⟨S262144x1, .f32⟩
  | 2 => ⟨S262144, .f32⟩
  | 3 => ⟨S262144x32, .f32⟩
  | 4 => ⟨S262144x1, .i32⟩
  | 5 => ⟨S_, .i32⟩
  | 6 => ⟨S262144x1, .i32⟩
  | 7 => ⟨S262144x1, .i1⟩
  | 8 => ⟨S_, .i32⟩
  | 9 => ⟨S262144x1, .i32⟩
  | 10 => ⟨S262144x1, .i32⟩
  | 11 => ⟨S262144x1, .i32⟩
  | 12 => ⟨S262144x1x1, .i32⟩
  | 13 => ⟨S1, .i32⟩
  | 14 => ⟨S_, .i32⟩
  | 15 => ⟨S262144x1x1, .i32⟩
  | 16 => ⟨S262144x1x1, .i1⟩
  | 17 => ⟨S1x1x1, .i32⟩
  | 18 => ⟨S262144x1x1, .i32⟩
  | 19 => ⟨S262144x1x1, .i1⟩
  | 20 => ⟨S262144x1x1, .i1⟩
  | 21 => ⟨S_, .i1⟩
  | 22 => ⟨S262144x1, .i1⟩
  | 23 => ⟨S262144x1, .f32⟩
  | 24 => ⟨S_, .f32⟩
  | 25 => ⟨S262144x1, .f32⟩
  | 26 => ⟨S262144x1, .f32⟩
  | 27 => ⟨S262144, .f32⟩
  | 28 => ⟨S262144x1, .i32⟩
  | 29 => ⟨S_, .i32⟩
  | 30 => ⟨S262144x1, .i32⟩
  | 31 => ⟨S262144x1, .i1⟩
  | 32 => ⟨S_, .i32⟩
  | 33 => ⟨S262144x1, .i32⟩
  | 34 => ⟨S262144x1, .i32⟩
  | 35 => ⟨S262144x1, .i32⟩
  | 36 => ⟨S262144x1x1, .i32⟩
  | 37 => ⟨S1, .i32⟩
  | 38 => ⟨S_, .i32⟩
  | 39 => ⟨S262144x1x1, .i32⟩
  | 40 => ⟨S262144x1x1, .i1⟩
  | 41 => ⟨S1x1x1, .i32⟩
  | 42 => ⟨S262144x1x1, .i32⟩
  | 43 => ⟨S262144x1x1, .i1⟩
  | 44 => ⟨S262144x1x1, .i1⟩
  | 45 => ⟨S_, .i1⟩
  | 46 => ⟨S262144x1, .i1⟩
  | 47 => ⟨S262144x1, .f32⟩
  | 48 => ⟨S_, .f32⟩
  | 49 => ⟨S262144x1, .f32⟩
  | 50 => ⟨S262144x1, .f32⟩
  | 51 => ⟨S262144, .f32⟩
  | 52 => ⟨S262144x32, .f32⟩
  | 53 => ⟨S262144x1, .i32⟩
  | 54 => ⟨S_, .i32⟩
  | 55 => ⟨S262144x1, .i32⟩
  | 56 => ⟨S262144x1, .i1⟩
  | 57 => ⟨S_, .i32⟩
  | 58 => ⟨S262144x1, .i32⟩
  | 59 => ⟨S262144x1, .i32⟩
  | 60 => ⟨S262144x1, .i32⟩
  | 61 => ⟨S262144x1x1, .i32⟩
  | 62 => ⟨S1, .i32⟩
  | 63 => ⟨S_, .i32⟩
  | 64 => ⟨S262144x1x1, .i32⟩
  | 65 => ⟨S262144x1x1, .i1⟩
  | 66 => ⟨S1x1x1, .i32⟩
  | 67 => ⟨S262144x1x1, .i32⟩
  | 68 => ⟨S262144x1x1, .i1⟩
  | 69 => ⟨S262144x1x1, .i1⟩
  | 70 => ⟨S_, .i1⟩
  | 71 => ⟨S262144x1, .i1⟩
  | 72 => ⟨S262144x1, .f32⟩
  | 73 => ⟨S_, .f32⟩
  | 74 => ⟨S262144x1, .f32⟩
  | 75 => ⟨S262144x1, .f32⟩
  | 76 => ⟨S262144, .f32⟩
  | 77 => ⟨S262144x32, .f32⟩
  | 78 => ⟨S262144x1, .i32⟩
  | 79 => ⟨S_, .i32⟩
  | 80 => ⟨S262144x1, .i32⟩
  | 81 => ⟨S262144x1, .i1⟩
  | 82 => ⟨S_, .i32⟩
  | 83 => ⟨S262144x1, .i32⟩
  | 84 => ⟨S262144x1, .i32⟩
  | 85 => ⟨S262144x1, .i32⟩
  | 86 => ⟨S262144x1x1, .i32⟩
  | 87 => ⟨S1, .i32⟩
  | 88 => ⟨S_, .i32⟩
  | 89 => ⟨S262144x1x1, .i32⟩
  | 90 => ⟨S262144x1x1, .i1⟩
  | 91 => ⟨S1x1x1, .i32⟩
  | 92 => ⟨S262144x1x1, .i32⟩
  | 93 => ⟨S262144x1x1, .i1⟩
  | 94 => ⟨S262144x1x1, .i1⟩
  | 95 => ⟨S_, .i1⟩
  | 96 => ⟨S262144x1, .i1⟩
  | 97 => ⟨S262144x1, .f32⟩
  | 98 => ⟨S_, .f32⟩
  | 99 => ⟨S262144x1, .f32⟩
  | 100 => ⟨S262144x1, .f32⟩
  | 101 => ⟨S262144, .f32⟩
  | 102 => ⟨S262144, .f32⟩
  | 103 => ⟨S262144, .f32⟩
  | 104 => ⟨S_, .f32⟩
  | 105 => ⟨S_, .f32⟩
  | 106 => ⟨S_, .f32⟩
  | 107 => ⟨S262144, .f32⟩
  | 108 => ⟨S262144, .f32⟩
  | 109 => ⟨S_, .f32⟩
  | 110 => ⟨S262144, .f32⟩
  | 111 => ⟨S262144, .f32⟩
  | 112 => ⟨S262144, .f32⟩
  | 113 => ⟨S_, .f32⟩
  | 114 => ⟨S262144, .f32⟩
  | 115 => ⟨S262144, .f32⟩
  | 116 => ⟨S262144, .f32⟩
  | 117 => ⟨S262144, .f32⟩
  | 118 => ⟨S262144, .f32⟩
  | 119 => ⟨S262144, .f32⟩
  | 120 => ⟨S262144, .f32⟩
  | 121 => ⟨S262144, .f32⟩
  | 122 => ⟨S262144, .f32⟩
  | 123 => ⟨S_, .f32⟩
  | 124 => ⟨S262144, .f32⟩
  | 125 => ⟨S262144, .f32⟩
  | 126 => ⟨S262144, .f32⟩
  | 127 => ⟨S262144, .f32⟩
  | _ => ⟨S262144x64, .f32⟩

abbrev hbmTy0_7 (i : Nat) : BufTy := match i % 128 with
  | 0 => ⟨S262144, .f32⟩
  | 1 => ⟨S262144, .f32⟩
  | 2 => ⟨S262144, .f32⟩
  | 3 => ⟨S_, .f32⟩
  | 4 => ⟨S262144, .f32⟩
  | 5 => ⟨S262144, .i1⟩
  | 6 => ⟨S_, .f32⟩
  | 7 => ⟨S262144, .f32⟩
  | 8 => ⟨S262144, .i1⟩
  | 9 => ⟨S262144, .i1⟩
  | 10 => ⟨S262144, .f32⟩
  | 11 => ⟨S1x256x97, .f32⟩
  | 12 => ⟨S256x97, .f32⟩
  | 13 => ⟨S262144x97, .f32⟩
  | 14 => ⟨S1x97, .f32⟩
  | 15 => ⟨S97, .f32⟩
  | 16 => ⟨S1x97, .f32⟩
  | 17 => ⟨S262144x97, .f32⟩
  | 18 => ⟨S262144x97, .f32⟩
  | 19 => ⟨S262144x32, .f32⟩
  | 20 => ⟨S_, .f32⟩
  | 21 => ⟨S262144, .f32⟩
  | 22 => ⟨S_, .f32⟩
  | 23 => ⟨S262144, .f32⟩
  | 24 => ⟨S262144, .f32⟩
  | 25 => ⟨S262144x1, .f32⟩
  | 26 => ⟨S262144x32, .f32⟩
  | 27 => ⟨S262144x32, .f32⟩
  | 28 => ⟨S262144x32, .f32⟩
  | 29 => ⟨S_, .f32⟩
  | 30 => ⟨S262144, .f32⟩
  | 31 => ⟨S262144x1, .f32⟩
  | 32 => ⟨S262144x32, .f32⟩
  | 33 => ⟨S262144x32, .f32⟩
  | 34 => ⟨S_, .f32⟩
  | 35 => ⟨S262144x32, .f32⟩
  | 36 => ⟨S262144x32, .f32⟩
  | 37 => ⟨S_, .f32⟩
  | 38 => ⟨S262144x32, .f32⟩
  | 39 => ⟨S262144x32, .f32⟩
  | 40 => ⟨S262144x32, .f32⟩
  | 41 => ⟨S_, .f32⟩
  | 42 => ⟨S262144, .f32⟩
  | 43 => ⟨S_, .f32⟩
  | 44 => ⟨S262144, .f32⟩
  | 45 => ⟨S262144, .f32⟩
  | 46 => ⟨S262144x1, .f32⟩
  | 47 => ⟨S262144x32, .f32⟩
  | 48 => ⟨S262144x32, .f32⟩
  | 49 => ⟨S262144x32, .f32⟩
  | 50 => ⟨S_, .f32⟩
  | 51 => ⟨S262144, .f32⟩
  | 52 => ⟨S262144x1, .f32⟩
  | 53 => ⟨S262144x32, .f32⟩
  | 54 => ⟨S262144x32, .f32⟩
  | 55 => ⟨S_, .f32⟩
  | 56 => ⟨S262144x32, .f32⟩
  | 57 => ⟨S262144x32, .f32⟩
  | 58 => ⟨S_, .f32⟩
  | 59 => ⟨S262144x32, .f32⟩
  | 60 => ⟨S262144x32, .f32⟩
  | 61 => ⟨S262144x33, .f32⟩
  | 62 => ⟨S_, .f32⟩
  | 63 => ⟨S262144x33, .f32⟩
  | 64 => ⟨S262144x33, .f32⟩
  | 65 => ⟨S_, .f32⟩
  | 66 => ⟨S262144x33, .f32⟩
  | 67 => ⟨S262144x33, .f32⟩
  | 68 => ⟨S262144x33, .f32⟩
  | 69 => ⟨S262144x33, .f32⟩
  | 70 => ⟨S262144x33, .i1⟩
  | 71 => ⟨S262144x33, .f32⟩
  | 72 => ⟨S262144x33, .f32⟩
  | 73 => ⟨S262144x33, .f32⟩
  | 74 => ⟨S262144x33, .f32⟩
  | 75 => ⟨S262144x33, .f32⟩
  | 76 => ⟨S262144x33, .f32⟩
  | 77 => ⟨S262144x33, .f32⟩
  | 78 => ⟨S262144x33, .f32⟩
  | 79 => ⟨S_, .f32⟩
  | 80 => ⟨S262144x33, .f32⟩
  | 81 => ⟨S262144x33, .f32⟩
  | 82 => ⟨S_, .f32⟩
  | 83 => ⟨S_, .f32⟩
  | 84 => ⟨S262144x32, .f32⟩
  | 85 => ⟨S_, .i32⟩
  | 86 => ⟨S_, .f32⟩
  | 87 => ⟨S262144x33, .f32⟩
  | 88 => ⟨S_, .f32⟩
  | 89 => ⟨S262144x33, .f32⟩
  | 90 => ⟨S262144x33, .f32⟩
  | 91 => ⟨S_, .f32⟩
  | 92 => ⟨S_, .f32⟩
  | 93 => ⟨S262144x32, .f32⟩
  | 94 => ⟨S_, .i32⟩
  | 95 => ⟨S_, .f32⟩
  | 96 => ⟨S262144x33, .f32⟩
  | 97 => ⟨S_, .f32⟩
  | 98 => ⟨S262144x33, .f32⟩
  | 99 => ⟨S262144x33, .f32⟩
  | 100 => ⟨S262144x1, .f32⟩
  | 101 => ⟨S262144x33, .f32⟩
  | 102 => ⟨S262144x33, .i1⟩
  | 103 => ⟨S262144x33, .i32⟩
  | 104 => ⟨S_, .i32⟩
  | 105 => ⟨S262144, .i32⟩
  | 106 => ⟨S_, .i32⟩
  | 107 => ⟨S262144, .i32⟩
  | 108 => ⟨S262144, .i32⟩
  | 109 => ⟨S_, .i32⟩
  | 110 => ⟨S_, .i32⟩
  | 111 => ⟨S_, .i32⟩
  | 112 => ⟨S262144, .i32⟩
  | 113 => ⟨S262144, .i32⟩
  | 114 => ⟨S_, .i32⟩
  | 115 => ⟨S262144, .i32⟩
  | 116 => ⟨S262144, .i32⟩
  | 117 => ⟨S262144x32, .f32⟩
  | 118 => ⟨S262144x1, .i32⟩
  | 119 => ⟨S_, .i32⟩
  | 120 => ⟨S262144x1, .i32⟩
  | 121 => ⟨S262144x1, .i1⟩
  | 122 => ⟨S_, .i32⟩
  | 123 => ⟨S262144x1, .i32⟩
  | 124 => ⟨S262144x1, .i32⟩
  | 125 => ⟨S262144x1, .i32⟩
  | 126 => ⟨S262144x1x1, .i32⟩
  | 127 => ⟨S1, .i32⟩
  | _ => ⟨S262144x64, .f32⟩

abbrev hbmTy0_8 (i : Nat) : BufTy := match i % 128 with
  | 0 => ⟨S_, .i32⟩
  | 1 => ⟨S262144x1x1, .i32⟩
  | 2 => ⟨S262144x1x1, .i1⟩
  | 3 => ⟨S1x1x1, .i32⟩
  | 4 => ⟨S262144x1x1, .i32⟩
  | 5 => ⟨S262144x1x1, .i1⟩
  | 6 => ⟨S262144x1x1, .i1⟩
  | 7 => ⟨S_, .i1⟩
  | 8 => ⟨S262144x1, .i1⟩
  | 9 => ⟨S262144x1, .f32⟩
  | 10 => ⟨S_, .f32⟩
  | 11 => ⟨S262144x1, .f32⟩
  | 12 => ⟨S262144x1, .f32⟩
  | 13 => ⟨S262144, .f32⟩
  | 14 => ⟨S262144x1, .i32⟩
  | 15 => ⟨S_, .i32⟩
  | 16 => ⟨S262144x1, .i32⟩
  | 17 => ⟨S262144x1, .i1⟩
  | 18 => ⟨S_, .i32⟩
  | 19 => ⟨S262144x1, .i32⟩
  | 20 => ⟨S262144x1, .i32⟩
  | 21 => ⟨S262144x1, .i32⟩
  | 22 => ⟨S262144x1x1, .i32⟩
  | 23 => ⟨S1, .i32⟩
  | 24 => ⟨S_, .i32⟩
  | 25 => ⟨S262144x1x1, .i32⟩
  | 26 => ⟨S262144x1x1, .i1⟩
  | 27 => ⟨S1x1x1, .i32⟩
  | 28 => ⟨S262144x1x1, .i32⟩
  | 29 => ⟨S262144x1x1, .i1⟩
  | 30 => ⟨S262144x1x1, .i1⟩
  | 31 => ⟨S_, .i1⟩
  | 32 => ⟨S262144x1, .i1⟩
  | 33 => ⟨S262144x1, .f32⟩
  | 34 => ⟨S_, .f32⟩
  | 35 => ⟨S262144x1, .f32⟩
  | 36 => ⟨S262144x1, .f32⟩
  | 37 => ⟨S262144, .f32⟩
  | 38 => ⟨S262144x32, .f32⟩
  | 39 => ⟨S262144x1, .i32⟩
  | 40 => ⟨S_, .i32⟩
  | 41 => ⟨S262144x1, .i32⟩
  | 42 => ⟨S262144x1, .i1⟩
  | 43 => ⟨S_, .i32⟩
  | 44 => ⟨S262144x1, .i32⟩
  | 45 => ⟨S262144x1, .i32⟩
  | 46 => ⟨S262144x1, .i32⟩
  | 47 => ⟨S262144x1x1, .i32⟩
  | 48 => ⟨S1, .i32⟩
  | 49 => ⟨S_, .i32⟩
  | 50 => ⟨S262144x1x1, .i32⟩
  | 51 => ⟨S262144x1x1, .i1⟩
  | 52 => ⟨S1x1x1, .i32⟩
  | 53 => ⟨S262144x1x1, .i32⟩
  | 54 => ⟨S262144x1x1, .i1⟩
  | 55 => ⟨S262144x1x1, .i1⟩
  | 56 => ⟨S_, .i1⟩
  | 57 => ⟨S262144x1, .i1⟩
  | 58 => ⟨S262144x1, .f32⟩
  | 59 => ⟨S_, .f32⟩
  | 60 => ⟨S262144x1, .f32⟩
  | 61 => ⟨S262144x1, .f32⟩
  | 62 => ⟨S262144, .f32⟩
  | 63 => ⟨S262144x1, .i32⟩
  | 64 => ⟨S_, .i32⟩
  | 65 => ⟨S262144x1, .i32⟩
  | 66 => ⟨S262144x1, .i1⟩
  | 67 => ⟨S_, .i32⟩
  | 68 => ⟨S262144x1, .i32⟩
  | 69 => ⟨S262144x1, .i32⟩
  | 70 => ⟨S262144x1, .i32⟩
  | 71 => ⟨S262144x1x1, .i32⟩
  | 72 => ⟨S1, .i32⟩
  | 73 => ⟨S_, .i32⟩
  | 74 => ⟨S262144x1x1, .i32⟩
  | 75 => ⟨S262144x1x1, .i1⟩
  | 76 => ⟨S1x1x1, .i32⟩
  | 77 => ⟨S262144x1x1, .i32⟩
  | 78 => ⟨S262144x1x1, .i1⟩
  | 79 => ⟨S262144x1x1, .i1⟩
  | 80 => ⟨S_, .i1⟩
  | 81 => ⟨S262144x1, .i1⟩
  | 82 => ⟨S262144x1, .f32⟩
  | 83 => ⟨S_, .f32⟩
  | 84 => ⟨S262144x1, .f32⟩
  | 85 => ⟨S262144x1, .f32⟩
  | 86 => ⟨S262144, .f32⟩
  | 87 => ⟨S262144x32, .f32⟩
  | 88 => ⟨S262144x1, .i32⟩
  | 89 => ⟨S_, .i32⟩
  | 90 => ⟨S262144x1, .i32⟩
  | 91 => ⟨S262144x1, .i1⟩
  | 92 => ⟨S_, .i32⟩
  | 93 => ⟨S262144x1, .i32⟩
  | 94 => ⟨S262144x1, .i32⟩
  | 95 => ⟨S262144x1, .i32⟩
  | 96 => ⟨S262144x1x1, .i32⟩
  | 97 => ⟨S1, .i32⟩
  | 98 => ⟨S_, .i32⟩
  | 99 => ⟨S262144x1x1, .i32⟩
  | 100 => ⟨S262144x1x1, .i1⟩
  | 101 => ⟨S1x1x1, .i32⟩
  | 102 => ⟨S262144x1x1, .i32⟩
  | 103 => ⟨S262144x1x1, .i1⟩
  | 104 => ⟨S262144x1x1, .i1⟩
  | 105 => ⟨S_, .i1⟩
  | 106 => ⟨S262144x1, .i1⟩
  | 107 => ⟨S262144x1, .f32⟩
  | 108 => ⟨S_, .f32⟩
  | 109 => ⟨S262144x1, .f32⟩
  | 110 => ⟨S262144x1, .f32⟩
  | 111 => ⟨S262144, .f32⟩
  | 112 => ⟨S262144x32, .f32⟩
  | 113 => ⟨S262144x1, .i32⟩
  | 114 => ⟨S_, .i32⟩
  | 115 => ⟨S262144x1, .i32⟩
  | 116 => ⟨S262144x1, .i1⟩
  | 117 => ⟨S_, .i32⟩
  | 118 => ⟨S262144x1, .i32⟩
  | 119 => ⟨S262144x1, .i32⟩
  | 120 => ⟨S262144x1, .i32⟩
  | 121 => ⟨S262144x1x1, .i32⟩
  | 122 => ⟨S1, .i32⟩
  | 123 => ⟨S_, .i32⟩
  | 124 => ⟨S262144x1x1, .i32⟩
  | 125 => ⟨S262144x1x1, .i1⟩
  | 126 => ⟨S1x1x1, .i32⟩
  | 127 => ⟨S262144x1x1, .i32⟩
  | _ => ⟨S262144x64, .f32⟩

abbrev hbmTy0_9 (i : Nat) : BufTy := match i % 128 with
  | 0 => ⟨S262144x1x1, .i1⟩
  | 1 => ⟨S262144x1x1, .i1⟩
  | 2 => ⟨S_, .i1⟩
  | 3 => ⟨S262144x1, .i1⟩
  | 4 => ⟨S262144x1, .f32⟩
  | 5 => ⟨S_, .f32⟩
  | 6 => ⟨S262144x1, .f32⟩
  | 7 => ⟨S262144x1, .f32⟩
  | 8 => ⟨S262144, .f32⟩
  | 9 => ⟨S262144, .f32⟩
  | 10 => ⟨S262144, .f32⟩
  | 11 => ⟨S_, .f32⟩
  | 12 => ⟨S_, .f32⟩
  | 13 => ⟨S_, .f32⟩
  | 14 => ⟨S262144, .f32⟩
  | 15 => ⟨S262144, .f32⟩
  | 16 => ⟨S_, .f32⟩
  | 17 => ⟨S262144, .f32⟩
  | 18 => ⟨S262144, .f32⟩
  | 19 => ⟨S262144, .f32⟩
  | 20 => ⟨S_, .f32⟩
  | 21 => ⟨S262144, .f32⟩
  | 22 => ⟨S262144, .f32⟩
  | 23 => ⟨S262144, .f32⟩
  | 24 => ⟨S262144, .f32⟩
  | 25 => ⟨S262144, .f32⟩
  | 26 => ⟨S262144, .f32⟩
  | 27 => ⟨S262144, .f32⟩
  | 28 => ⟨S262144, .f32⟩
  | 29 => ⟨S262144, .f32⟩
  | 30 => ⟨S_, .f32⟩
  | 31 => ⟨S262144, .f32⟩
  | 32 => ⟨S262144, .f32⟩
  | 33 => ⟨S262144, .f32⟩
  | 34 => ⟨S262144, .f32⟩
  | 35 => ⟨S262144, .f32⟩
  | 36 => ⟨S262144, .f32⟩
  | 37 => ⟨S262144, .f32⟩
  | 38 => ⟨S_, .f32⟩
  | 39 => ⟨S262144, .f32⟩
  | 40 => ⟨S262144, .i1⟩
  | 41 => ⟨S_, .f32⟩
  | 42 => ⟨S262144, .f32⟩
  | 43 => ⟨S262144, .i1⟩
  | 44 => ⟨S262144, .i1⟩
  | 45 => ⟨S262144, .f32⟩
  | 46 => ⟨S262144x1, .f32⟩
  | 47 => ⟨S262144x1, .f32⟩
  | 48 => ⟨S262144x1, .f32⟩
  | 49 => ⟨S262144x1, .f32⟩
  | 50 => ⟨S262144x1, .f32⟩
  | 51 => ⟨S262144x1, .f32⟩
  | 52 => ⟨S_, .f32⟩
  | 53 => ⟨S262144x1, .f32⟩
  | 54 => ⟨S262144x1, .f32⟩
  | 55 => ⟨S_, .f32⟩
  | 56 => ⟨S262144x1, .f32⟩
  | 57 => ⟨S262144x1, .f32⟩
  | 58 => ⟨S_, .f32⟩
  | 59 => ⟨S262144x1, .f32⟩
  | 60 => ⟨S262144x1, .f32⟩
  | 61 => ⟨S262144x1, .f32⟩
  | 62 => ⟨S_, .f32⟩
  | 63 => ⟨S262144x1, .f32⟩
  | 64 => ⟨S262144x1, .i1⟩
  | 65 => ⟨S262144x1, .f32⟩
  | 66 => ⟨S_, .f32⟩
  | 67 => ⟨S262144x1, .f32⟩
  | 68 => ⟨S262144x1, .f32⟩
  | 69 => ⟨S_, .f32⟩
  | 70 => ⟨S262144x1, .f32⟩
  | 71 => ⟨S262144x1, .i1⟩
  | 72 => ⟨S262144x1, .f32⟩
  | 73 => ⟨S_, .f32⟩
  | 74 => ⟨S262144x1, .f32⟩
  | 75 => ⟨S262144x1, .f32⟩
  | 76 => ⟨S262144x1, .f32⟩
  | 77 => ⟨S262144x1, .f32⟩
  | 78 => ⟨S262144x1, .f32⟩
  | 79 => ⟨S_, .f32⟩
  | 80 => ⟨S262144x1, .f32⟩
  | 81 => ⟨S262144x1, .f32⟩
  | _ => ⟨S262144x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S262144x64, .f32⟩

abbrev bufTy : (tb : Table) → Fin (tcTables nBuf tb) → BufTy
  | .hbm, ⟨i, _⟩ => hbmTy i
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_v63 : Ref sig .tc := ⟨.hbm, 101, rfl⟩
abbrev main_cst_10 : Ref sig .tc := ⟨.hbm, 102, rfl⟩
abbrev main_v64 : Ref sig .tc := ⟨.hbm, 103, rfl⟩
abbrev main_v65 : Ref sig .tc := ⟨.hbm, 104, rfl⟩
abbrev main_call3_call0_cst : Ref sig .tc := ⟨.hbm, 105, rfl⟩
abbrev main_call3_call0_v0 : Ref sig .tc := ⟨.hbm, 106, rfl⟩
abbrev main_v66 : Ref sig .tc := ⟨.hbm, 107, rfl⟩
abbrev main_c : Ref sig .tc := ⟨.hbm, 108, rfl⟩
abbrev main_call4_v0 : Ref sig .tc := ⟨.hbm, 109, rfl⟩
abbrev main_v67 : Ref sig .tc := ⟨.hbm, 110, rfl⟩
abbrev main_cst_11 : Ref sig .tc := ⟨.hbm, 111, rfl⟩
abbrev main_v68 : Ref sig .tc := ⟨.hbm, 112, rfl⟩
abbrev main_v69 : Ref sig .tc := ⟨.hbm, 113, rfl⟩
abbrev main_call5_call0_cst : Ref sig .tc := ⟨.hbm, 114, rfl⟩
abbrev main_call5_call0_v0 : Ref sig .tc := ⟨.hbm, 115, rfl⟩
abbrev main_v70 : Ref sig .tc := ⟨.hbm, 116, rfl⟩
abbrev main_c_12 : Ref sig .tc := ⟨.hbm, 117, rfl⟩
abbrev main_call6_v0 : Ref sig .tc := ⟨.hbm, 118, rfl⟩
abbrev main_v71 : Ref sig .tc := ⟨.hbm, 119, rfl⟩
abbrev main_cst_13 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_c_14 : Ref sig .tc := ⟨.hbm, 127, rfl⟩
abbrev main_v78 : Ref sig .tc := ⟨.hbm, 128, rfl⟩
abbrev main_c_15 : Ref sig .tc := ⟨.hbm, 129, rfl⟩
abbrev main_v79 : Ref sig .tc := ⟨.hbm, 130, rfl⟩
abbrev main_v80 : Ref sig .tc := ⟨.hbm, 131, rfl⟩
abbrev main_c_16 : Ref sig .tc := ⟨.hbm, 132, rfl⟩
abbrev main_c_17 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_call8_c : Ref sig .tc := ⟨.hbm, 142, rfl⟩
abbrev main_call8_v0 : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_v5 : Ref sig .tc := ⟨.hbm, 149, rfl⟩
abbrev main_call8_c_1 : Ref sig .tc := ⟨.hbm, 150, rfl⟩
abbrev main_call8_c_2 : Ref sig .tc := ⟨.hbm, 151, rfl⟩
abbrev main_call8_v6 : Ref sig .tc := ⟨.hbm, 152, rfl⟩
abbrev main_call8_v7 : Ref sig .tc := ⟨.hbm, 153, rfl⟩
abbrev main_call8_v8 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_c_3 : Ref sig .tc := ⟨.hbm, 158, rfl⟩
abbrev main_call8_v12 : Ref sig .tc := ⟨.hbm, 159, rfl⟩
abbrev main_call8_v13 : Ref sig .tc := ⟨.hbm, 160, rfl⟩
abbrev main_call8_cst : Ref sig .tc := ⟨.hbm, 161, rfl⟩
abbrev main_call8_v14 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_call9_c : Ref sig .tc := ⟨.hbm, 166, rfl⟩
abbrev main_call9_v0 : Ref sig .tc := ⟨.hbm, 167, rfl⟩
abbrev main_call9_v1 : Ref sig .tc := ⟨.hbm, 168, rfl⟩
abbrev main_call9_c_0 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_call9_v5 : Ref sig .tc := ⟨.hbm, 173, rfl⟩
abbrev main_call9_c_1 : Ref sig .tc := ⟨.hbm, 174, rfl⟩
abbrev main_call9_c_2 : Ref sig .tc := ⟨.hbm, 175, rfl⟩
abbrev main_call9_v6 : Ref sig .tc := ⟨.hbm, 176, rfl⟩
abbrev main_call9_v7 : Ref sig .tc := ⟨.hbm, 177, rfl⟩
abbrev main_call9_v8 : Ref sig .tc := ⟨.hbm, 178, rfl⟩
abbrev main_call9_v9 : Ref sig .tc := ⟨.hbm, 179, rfl⟩
abbrev main_call9_v10 : Ref sig .tc := ⟨.hbm, 180, rfl⟩
abbrev main_call9_v11 : Ref sig .tc := ⟨.hbm, 181, rfl⟩
abbrev main_call9_c_3 : Ref sig .tc := ⟨.hbm, 182, rfl⟩
abbrev main_call9_v12 : Ref sig .tc := ⟨.hbm, 183, rfl⟩
abbrev main_call9_v13 : Ref sig .tc := ⟨.hbm, 184, rfl⟩
abbrev main_call9_cst : Ref sig .tc := ⟨.hbm, 185, rfl⟩
abbrev main_call9_v14 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_call10_c : Ref sig .tc := ⟨.hbm, 191, rfl⟩
abbrev main_call10_v0 : Ref sig .tc := ⟨.hbm, 192, rfl⟩
abbrev main_call10_v1 : Ref sig .tc := ⟨.hbm, 193, rfl⟩
abbrev main_call10_c_0 : Ref sig .tc := ⟨.hbm, 194, rfl⟩
abbrev main_call10_v2 : Ref sig .tc := ⟨.hbm, 195, rfl⟩
abbrev main_call10_v3 : Ref sig .tc := ⟨.hbm, 196, rfl⟩
abbrev main_call10_v4 : Ref sig .tc := ⟨.hbm, 197, rfl⟩
abbrev main_call10_v5 : Ref sig .tc := ⟨.hbm, 198, rfl⟩
abbrev main_call10_c_1 : Ref sig .tc := ⟨.hbm, 199, rfl⟩
abbrev main_call10_c_2 : Ref sig .tc := ⟨.hbm, 200, rfl⟩
abbrev main_call10_v6 : Ref sig .tc := ⟨.hbm, 201, rfl⟩
abbrev main_call10_v7 : Ref sig .tc := ⟨.hbm, 202, rfl⟩
abbrev main_call10_v8 : Ref sig .tc := ⟨.hbm, 203, rfl⟩
abbrev main_call10_v9 : Ref sig .tc := ⟨.hbm, 204, rfl⟩
abbrev main_call10_v10 : Ref sig .tc := ⟨.hbm, 205, rfl⟩
abbrev main_call10_v11 : Ref sig .tc := ⟨.hbm, 206, rfl⟩
abbrev main_call10_c_3 : Ref sig .tc := ⟨.hbm, 207, rfl⟩
abbrev main_call10_v12 : Ref sig .tc := ⟨.hbm, 208, rfl⟩
abbrev main_call10_v13 : Ref sig .tc := ⟨.hbm, 209, rfl⟩
abbrev main_call10_cst : Ref sig .tc := ⟨.hbm, 210, rfl⟩
abbrev main_call10_v14 : Ref sig .tc := ⟨.hbm, 211, rfl⟩
abbrev main_v91 : Ref sig .tc := ⟨.hbm, 212, rfl⟩
abbrev main_v92 : Ref sig .tc := ⟨.hbm, 213, rfl⟩
abbrev main_v93 : Ref sig .tc := ⟨.hbm, 214, rfl⟩
abbrev main_call11_c : Ref sig .tc := ⟨.hbm, 215, rfl⟩
abbrev main_call11_v0 : Ref sig .tc := ⟨.hbm, 216, rfl⟩
abbrev main_call11_v1 : Ref sig .tc := ⟨.hbm, 217, rfl⟩
abbrev main_call11_c_0 : Ref sig .tc := ⟨.hbm, 218, rfl⟩
abbrev main_call11_v2 : Ref sig .tc := ⟨.hbm, 219, rfl⟩
abbrev main_call11_v3 : Ref sig .tc := ⟨.hbm, 220, rfl⟩
abbrev main_call11_v4 : Ref sig .tc := ⟨.hbm, 221, rfl⟩
abbrev main_call11_v5 : Ref sig .tc := ⟨.hbm, 222, rfl⟩
abbrev main_call11_c_1 : Ref sig .tc := ⟨.hbm, 223, rfl⟩
abbrev main_call11_c_2 : Ref sig .tc := ⟨.hbm, 224, rfl⟩
abbrev main_call11_v6 : Ref sig .tc := ⟨.hbm, 225, rfl⟩
abbrev main_call11_v7 : Ref sig .tc := ⟨.hbm, 226, rfl⟩
abbrev main_call11_v8 : Ref sig .tc := ⟨.hbm, 227, rfl⟩
abbrev main_call11_v9 : Ref sig .tc := ⟨.hbm, 228, rfl⟩
abbrev main_call11_v10 : Ref sig .tc := ⟨.hbm, 229, rfl⟩
abbrev main_call11_v11 : Ref sig .tc := ⟨.hbm, 230, rfl⟩
abbrev main_call11_c_3 : Ref sig .tc := ⟨.hbm, 231, rfl⟩
abbrev main_call11_v12 : Ref sig .tc := ⟨.hbm, 232, rfl⟩
abbrev main_call11_v13 : Ref sig .tc := ⟨.hbm, 233, rfl⟩
abbrev main_call11_cst : Ref sig .tc := ⟨.hbm, 234, rfl⟩
abbrev main_call11_v14 : Ref sig .tc := ⟨.hbm, 235, rfl⟩
abbrev main_v94 : Ref sig .tc := ⟨.hbm, 236, rfl⟩
abbrev main_v95 : Ref sig .tc := ⟨.hbm, 237, rfl⟩
abbrev main_v96 : Ref sig .tc := ⟨.hbm, 238, rfl⟩
abbrev main_v97 : Ref sig .tc := ⟨.hbm, 239, rfl⟩
abbrev main_call12_c : Ref sig .tc := ⟨.hbm, 240, rfl⟩
abbrev main_call12_v0 : Ref sig .tc := ⟨.hbm, 241, rfl⟩
abbrev main_call12_v1 : Ref sig .tc := ⟨.hbm, 242, rfl⟩
abbrev main_call12_c_0 : Ref sig .tc := ⟨.hbm, 243, rfl⟩
abbrev main_call12_v2 : Ref sig .tc := ⟨.hbm, 244, rfl⟩
abbrev main_call12_v3 : Ref sig .tc := ⟨.hbm, 245, rfl⟩
abbrev main_call12_v4 : Ref sig .tc := ⟨.hbm, 246, rfl⟩
abbrev main_call12_v5 : Ref sig .tc := ⟨.hbm, 247, rfl⟩
abbrev main_call12_c_1 : Ref sig .tc := ⟨.hbm, 248, rfl⟩
abbrev main_call12_c_2 : Ref sig .tc := ⟨.hbm, 249, rfl⟩
abbrev main_call12_v6 : Ref sig .tc := ⟨.hbm, 250, rfl⟩
abbrev main_call12_v7 : Ref sig .tc := ⟨.hbm, 251, rfl⟩
abbrev main_call12_v8 : Ref sig .tc := ⟨.hbm, 252, rfl⟩
abbrev main_call12_v9 : Ref sig .tc := ⟨.hbm, 253, rfl⟩
abbrev main_call12_v10 : Ref sig .tc := ⟨.hbm, 254, rfl⟩
abbrev main_call12_v11 : Ref sig .tc := ⟨.hbm, 255, rfl⟩
abbrev main_call12_c_3 : Ref sig .tc := ⟨.hbm, 256, rfl⟩
abbrev main_call12_v12 : Ref sig .tc := ⟨.hbm, 257, rfl⟩
abbrev main_call12_v13 : Ref sig .tc := ⟨.hbm, 258, rfl⟩
abbrev main_call12_cst : Ref sig .tc := ⟨.hbm, 259, rfl⟩
abbrev main_call12_v14 : Ref sig .tc := ⟨.hbm, 260, rfl⟩
abbrev main_v98 : Ref sig .tc := ⟨.hbm, 261, rfl⟩
abbrev main_v99 : Ref sig .tc := ⟨.hbm, 262, rfl⟩
abbrev main_v100 : Ref sig .tc := ⟨.hbm, 263, rfl⟩
abbrev main_v101 : Ref sig .tc := ⟨.hbm, 264, rfl⟩
abbrev main_call13_c : Ref sig .tc := ⟨.hbm, 265, rfl⟩
abbrev main_call13_v0 : Ref sig .tc := ⟨.hbm, 266, rfl⟩
abbrev main_call13_v1 : Ref sig .tc := ⟨.hbm, 267, rfl⟩
abbrev main_call13_c_0 : Ref sig .tc := ⟨.hbm, 268, rfl⟩
abbrev main_call13_v2 : Ref sig .tc := ⟨.hbm, 269, rfl⟩
abbrev main_call13_v3 : Ref sig .tc := ⟨.hbm, 270, rfl⟩
abbrev main_call13_v4 : Ref sig .tc := ⟨.hbm, 271, rfl⟩
abbrev main_call13_v5 : Ref sig .tc := ⟨.hbm, 272, rfl⟩
abbrev main_call13_c_1 : Ref sig .tc := ⟨.hbm, 273, rfl⟩
abbrev main_call13_c_2 : Ref sig .tc := ⟨.hbm, 274, rfl⟩
abbrev main_call13_v6 : Ref sig .tc := ⟨.hbm, 275, rfl⟩
abbrev main_call13_v7 : Ref sig .tc := ⟨.hbm, 276, rfl⟩
abbrev main_call13_v8 : Ref sig .tc := ⟨.hbm, 277, rfl⟩
abbrev main_call13_v9 : Ref sig .tc := ⟨.hbm, 278, rfl⟩
abbrev main_call13_v10 : Ref sig .tc := ⟨.hbm, 279, rfl⟩
abbrev main_call13_v11 : Ref sig .tc := ⟨.hbm, 280, rfl⟩
abbrev main_call13_c_3 : Ref sig .tc := ⟨.hbm, 281, rfl⟩
abbrev main_call13_v12 : Ref sig .tc := ⟨.hbm, 282, rfl⟩
abbrev main_call13_v13 : Ref sig .tc := ⟨.hbm, 283, rfl⟩
abbrev main_call13_cst : Ref sig .tc := ⟨.hbm, 284, rfl⟩
abbrev main_call13_v14 : Ref sig .tc := ⟨.hbm, 285, rfl⟩
abbrev main_v102 : Ref sig .tc := ⟨.hbm, 286, rfl⟩
abbrev main_v103 : Ref sig .tc := ⟨.hbm, 287, rfl⟩
abbrev main_v104 : Ref sig .tc := ⟨.hbm, 288, rfl⟩
abbrev main_v105 : Ref sig .tc := ⟨.hbm, 289, rfl⟩
abbrev main_cst_18 : Ref sig .tc := ⟨.hbm, 290, rfl⟩
abbrev main_cst_19 : Ref sig .tc := ⟨.hbm, 291, rfl⟩
abbrev main_call14_v0 : Ref sig .tc := ⟨.hbm, 292, rfl⟩
abbrev main_call14_v1 : Ref sig .tc := ⟨.hbm, 293, rfl⟩
abbrev main_call14_v2 : Ref sig .tc := ⟨.hbm, 294, rfl⟩
abbrev main_call14_v3 : Ref sig .tc := ⟨.hbm, 295, rfl⟩
abbrev main_call14_v4 : Ref sig .tc := ⟨.hbm, 296, rfl⟩
abbrev main_v106 : Ref sig .tc := ⟨.hbm, 297, rfl⟩
abbrev main_v107 : Ref sig .tc := ⟨.hbm, 298, rfl⟩
abbrev main_cst_20 : Ref sig .tc := ⟨.hbm, 299, rfl⟩
abbrev main_v108 : Ref sig .tc := ⟨.hbm, 300, rfl⟩
abbrev main_v109 : Ref sig .tc := ⟨.hbm, 301, rfl⟩
abbrev main_v110 : Ref sig .tc := ⟨.hbm, 302, rfl⟩
abbrev main_v111 : Ref sig .tc := ⟨.hbm, 303, rfl⟩
abbrev main_v112 : Ref sig .tc := ⟨.hbm, 304, rfl⟩
abbrev main_v113 : Ref sig .tc := ⟨.hbm, 305, rfl⟩
abbrev main_v114 : Ref sig .tc := ⟨.hbm, 306, rfl⟩
abbrev main_v115 : Ref sig .tc := ⟨.hbm, 307, rfl⟩
abbrev main_v116 : Ref sig .tc := ⟨.hbm, 308, rfl⟩
abbrev main_cst_21 : Ref sig .tc := ⟨.hbm, 309, rfl⟩
abbrev main_v117 : Ref sig .tc := ⟨.hbm, 310, rfl⟩
abbrev main_v118 : Ref sig .tc := ⟨.hbm, 311, rfl⟩
abbrev main_v119 : Ref sig .tc := ⟨.hbm, 312, rfl⟩
abbrev main_v120 : Ref sig .tc := ⟨.hbm, 313, rfl⟩
abbrev main_v121 : Ref sig .tc := ⟨.hbm, 314, rfl⟩
abbrev main_v122 : Ref sig .tc := ⟨.hbm, 315, rfl⟩
abbrev main_v123 : Ref sig .tc := ⟨.hbm, 316, rfl⟩
abbrev main_cst_22 : Ref sig .tc := ⟨.hbm, 317, rfl⟩
abbrev main_v124 : Ref sig .tc := ⟨.hbm, 318, rfl⟩
abbrev main_v125 : Ref sig .tc := ⟨.hbm, 319, rfl⟩
abbrev main_cst_23 : Ref sig .tc := ⟨.hbm, 320, rfl⟩
abbrev main_v126 : Ref sig .tc := ⟨.hbm, 321, rfl⟩
abbrev main_v127 : Ref sig .tc := ⟨.hbm, 322, rfl⟩
abbrev main_v128 : Ref sig .tc := ⟨.hbm, 323, rfl⟩
abbrev main_v129 : Ref sig .tc := ⟨.hbm, 324, rfl⟩
abbrev main_v130 : Ref sig .tc := ⟨.hbm, 325, rfl⟩
abbrev main_v131 : Ref sig .tc := ⟨.hbm, 326, rfl⟩
abbrev main_v132 : Ref sig .tc := ⟨.hbm, 327, rfl⟩
abbrev main_v133 : Ref sig .tc := ⟨.hbm, 328, rfl⟩
abbrev main_v134 : Ref sig .tc := ⟨.hbm, 329, rfl⟩
abbrev main_v135 : Ref sig .tc := ⟨.hbm, 330, rfl⟩
abbrev main_v136 : Ref sig .tc := ⟨.hbm, 331, rfl⟩
abbrev main_v137 : Ref sig .tc := ⟨.hbm, 332, rfl⟩
abbrev main_v138 : Ref sig .tc := ⟨.hbm, 333, rfl⟩
abbrev main_cst_24 : Ref sig .tc := ⟨.hbm, 334, rfl⟩
abbrev main_v139 : Ref sig .tc := ⟨.hbm, 335, rfl⟩
abbrev main_cst_25 : Ref sig .tc := ⟨.hbm, 336, rfl⟩
abbrev main_v140 : Ref sig .tc := ⟨.hbm, 337, rfl⟩
abbrev main_v141 : Ref sig .tc := ⟨.hbm, 338, rfl⟩
abbrev main_v142 : Ref sig .tc := ⟨.hbm, 339, rfl⟩
abbrev main_v143 : Ref sig .tc := ⟨.hbm, 340, rfl⟩
abbrev main_v144 : Ref sig .tc := ⟨.hbm, 341, rfl⟩
abbrev main_v145 : Ref sig .tc := ⟨.hbm, 342, rfl⟩
abbrev main_cst_26 : Ref sig .tc := ⟨.hbm, 343, rfl⟩
abbrev main_v146 : Ref sig .tc := ⟨.hbm, 344, rfl⟩
abbrev main_v147 : Ref sig .tc := ⟨.hbm, 345, rfl⟩
abbrev main_v148 : Ref sig .tc := ⟨.hbm, 346, rfl⟩
abbrev main_v149 : Ref sig .tc := ⟨.hbm, 347, rfl⟩
abbrev main_cst_27 : Ref sig .tc := ⟨.hbm, 348, rfl⟩
abbrev main_v150 : Ref sig .tc := ⟨.hbm, 349, rfl⟩
abbrev main_v151 : Ref sig .tc := ⟨.hbm, 350, rfl⟩
abbrev main_cst_28 : Ref sig .tc := ⟨.hbm, 351, rfl⟩
abbrev main_v152 : Ref sig .tc := ⟨.hbm, 352, rfl⟩
abbrev main_v153 : Ref sig .tc := ⟨.hbm, 353, rfl⟩
abbrev main_v154 : Ref sig .tc := ⟨.hbm, 354, rfl⟩
abbrev main_cst_29 : Ref sig .tc := ⟨.hbm, 355, rfl⟩
abbrev main_v155 : Ref sig .tc := ⟨.hbm, 356, rfl⟩
abbrev main_cst_30 : Ref sig .tc := ⟨.hbm, 357, rfl⟩
abbrev main_v156 : Ref sig .tc := ⟨.hbm, 358, rfl⟩
abbrev main_v157 : Ref sig .tc := ⟨.hbm, 359, rfl⟩
abbrev main_v158 : Ref sig .tc := ⟨.hbm, 360, rfl⟩
abbrev main_v159 : Ref sig .tc := ⟨.hbm, 361, rfl⟩
abbrev main_v160 : Ref sig .tc := ⟨.hbm, 362, rfl⟩
abbrev main_v161 : Ref sig .tc := ⟨.hbm, 363, rfl⟩
abbrev main_cst_31 : Ref sig .tc := ⟨.hbm, 364, rfl⟩
abbrev main_v162 : Ref sig .tc := ⟨.hbm, 365, rfl⟩
abbrev main_v163 : Ref sig .tc := ⟨.hbm, 366, rfl⟩
abbrev main_v164 : Ref sig .tc := ⟨.hbm, 367, rfl⟩
abbrev main_v165 : Ref sig .tc := ⟨.hbm, 368, rfl⟩
abbrev main_cst_32 : Ref sig .tc := ⟨.hbm, 369, rfl⟩
abbrev main_v166 : Ref sig .tc := ⟨.hbm, 370, rfl⟩
abbrev main_v167 : Ref sig .tc := ⟨.hbm, 371, rfl⟩
abbrev main_cst_33 : Ref sig .tc := ⟨.hbm, 372, rfl⟩
abbrev main_v168 : Ref sig .tc := ⟨.hbm, 373, rfl⟩
abbrev main_v169 : Ref sig .tc := ⟨.hbm, 374, rfl⟩
abbrev main_v170 : Ref sig .tc := ⟨.hbm, 375, rfl⟩
abbrev main_cst_34 : Ref sig .tc := ⟨.hbm, 376, rfl⟩
abbrev main_v171 : Ref sig .tc := ⟨.hbm, 377, rfl⟩
abbrev main_v172 : Ref sig .tc := ⟨.hbm, 378, rfl⟩
abbrev main_call16_cst : Ref sig .tc := ⟨.hbm, 379, rfl⟩
abbrev main_call16_v0 : Ref sig .tc := ⟨.hbm, 380, rfl⟩
abbrev main_call16_v1 : Ref sig .tc := ⟨.hbm, 381, rfl⟩
abbrev main_call16_v2 : Ref sig .tc := ⟨.hbm, 382, rfl⟩
abbrev main_call16_v3 : Ref sig .tc := ⟨.hbm, 383, rfl⟩
abbrev main_call16_v4 : Ref sig .tc := ⟨.hbm, 384, rfl⟩
abbrev main_call16_v5 : Ref sig .tc := ⟨.hbm, 385, rfl⟩
abbrev main_call16_v6 : Ref sig .tc := ⟨.hbm, 386, rfl⟩
abbrev main_call16_v7 : Ref sig .tc := ⟨.hbm, 387, rfl⟩
abbrev main_call16_v8 : Ref sig .tc := ⟨.hbm, 388, rfl⟩
abbrev main_call16_v9 : Ref sig .tc := ⟨.hbm, 389, rfl⟩
abbrev main_call16_v10 : Ref sig .tc := ⟨.hbm, 390, rfl⟩
abbrev main_call16_v11 : Ref sig .tc := ⟨.hbm, 391, rfl⟩
abbrev main_v173 : Ref sig .tc := ⟨.hbm, 392, rfl⟩
abbrev main_cst_35 : Ref sig .tc := ⟨.hbm, 393, rfl⟩
abbrev main_v174 : Ref sig .tc := ⟨.hbm, 394, rfl⟩
abbrev main_v175 : Ref sig .tc := ⟨.hbm, 395, rfl⟩
abbrev main_call17_call0_cst : Ref sig .tc := ⟨.hbm, 396, rfl⟩
abbrev main_call17_call0_v0 : Ref sig .tc := ⟨.hbm, 397, rfl⟩
abbrev main_v176 : Ref sig .tc := ⟨.hbm, 398, rfl⟩
abbrev main_c_36 : Ref sig .tc := ⟨.hbm, 399, rfl⟩
abbrev main_call18_v0 : Ref sig .tc := ⟨.hbm, 400, rfl⟩
abbrev main_v177 : Ref sig .tc := ⟨.hbm, 401, rfl⟩
abbrev main_cst_37 : Ref sig .tc := ⟨.hbm, 402, rfl⟩
abbrev main_v178 : Ref sig .tc := ⟨.hbm, 403, rfl⟩
abbrev main_v179 : Ref sig .tc := ⟨.hbm, 404, rfl⟩
abbrev main_call19_call0_cst : Ref sig .tc := ⟨.hbm, 405, rfl⟩
abbrev main_call19_call0_v0 : Ref sig .tc := ⟨.hbm, 406, rfl⟩
abbrev main_v180 : Ref sig .tc := ⟨.hbm, 407, rfl⟩
abbrev main_c_38 : Ref sig .tc := ⟨.hbm, 408, rfl⟩
abbrev main_call20_v0 : Ref sig .tc := ⟨.hbm, 409, rfl⟩
abbrev main_v181 : Ref sig .tc := ⟨.hbm, 410, rfl⟩
abbrev main_cst_39 : Ref sig .tc := ⟨.hbm, 411, rfl⟩
abbrev main_v182 : Ref sig .tc := ⟨.hbm, 412, rfl⟩
abbrev main_v183 : Ref sig .tc := ⟨.hbm, 413, rfl⟩
abbrev main_v184 : Ref sig .tc := ⟨.hbm, 414, rfl⟩
abbrev main_v185 : Ref sig .tc := ⟨.hbm, 415, rfl⟩
abbrev main_v186 : Ref sig .tc := ⟨.hbm, 416, rfl⟩
abbrev main_v187 : Ref sig .tc := ⟨.hbm, 417, rfl⟩
abbrev main_c_40 : Ref sig .tc := ⟨.hbm, 418, rfl⟩
abbrev main_v188 : Ref sig .tc := ⟨.hbm, 419, rfl⟩
abbrev main_c_41 : Ref sig .tc := ⟨.hbm, 420, rfl⟩
abbrev main_v189 : Ref sig .tc := ⟨.hbm, 421, rfl⟩
abbrev main_v190 : Ref sig .tc := ⟨.hbm, 422, rfl⟩
abbrev main_c_42 : Ref sig .tc := ⟨.hbm, 423, rfl⟩
abbrev main_c_43 : Ref sig .tc := ⟨.hbm, 424, rfl⟩
abbrev main_call21_v0 : Ref sig .tc := ⟨.hbm, 425, rfl⟩
abbrev main_call21_v1 : Ref sig .tc := ⟨.hbm, 426, rfl⟩
abbrev main_call21_v2 : Ref sig .tc := ⟨.hbm, 427, rfl⟩
abbrev main_call21_v3 : Ref sig .tc := ⟨.hbm, 428, rfl⟩
abbrev main_call21_v4 : Ref sig .tc := ⟨.hbm, 429, rfl⟩
abbrev main_v191 : Ref sig .tc := ⟨.hbm, 430, rfl⟩
abbrev main_v192 : Ref sig .tc := ⟨.hbm, 431, rfl⟩
abbrev main_v193 : Ref sig .tc := ⟨.hbm, 432, rfl⟩
abbrev main_call22_c : Ref sig .tc := ⟨.hbm, 433, rfl⟩
abbrev main_call22_v0 : Ref sig .tc := ⟨.hbm, 434, rfl⟩
abbrev main_call22_v1 : Ref sig .tc := ⟨.hbm, 435, rfl⟩
abbrev main_call22_c_0 : Ref sig .tc := ⟨.hbm, 436, rfl⟩
abbrev main_call22_v2 : Ref sig .tc := ⟨.hbm, 437, rfl⟩
abbrev main_call22_v3 : Ref sig .tc := ⟨.hbm, 438, rfl⟩
abbrev main_call22_v4 : Ref sig .tc := ⟨.hbm, 439, rfl⟩
abbrev main_call22_v5 : Ref sig .tc := ⟨.hbm, 440, rfl⟩
abbrev main_call22_c_1 : Ref sig .tc := ⟨.hbm, 441, rfl⟩
abbrev main_call22_c_2 : Ref sig .tc := ⟨.hbm, 442, rfl⟩
abbrev main_call22_v6 : Ref sig .tc := ⟨.hbm, 443, rfl⟩
abbrev main_call22_v7 : Ref sig .tc := ⟨.hbm, 444, rfl⟩
abbrev main_call22_v8 : Ref sig .tc := ⟨.hbm, 445, rfl⟩
abbrev main_call22_v9 : Ref sig .tc := ⟨.hbm, 446, rfl⟩
abbrev main_call22_v10 : Ref sig .tc := ⟨.hbm, 447, rfl⟩
abbrev main_call22_v11 : Ref sig .tc := ⟨.hbm, 448, rfl⟩
abbrev main_call22_c_3 : Ref sig .tc := ⟨.hbm, 449, rfl⟩
abbrev main_call22_v12 : Ref sig .tc := ⟨.hbm, 450, rfl⟩
abbrev main_call22_v13 : Ref sig .tc := ⟨.hbm, 451, rfl⟩
abbrev main_call22_cst : Ref sig .tc := ⟨.hbm, 452, rfl⟩
abbrev main_call22_v14 : Ref sig .tc := ⟨.hbm, 453, rfl⟩
abbrev main_v194 : Ref sig .tc := ⟨.hbm, 454, rfl⟩
abbrev main_v195 : Ref sig .tc := ⟨.hbm, 455, rfl⟩
abbrev main_v196 : Ref sig .tc := ⟨.hbm, 456, rfl⟩
abbrev main_call23_c : Ref sig .tc := ⟨.hbm, 457, rfl⟩
abbrev main_call23_v0 : Ref sig .tc := ⟨.hbm, 458, rfl⟩
abbrev main_call23_v1 : Ref sig .tc := ⟨.hbm, 459, rfl⟩
abbrev main_call23_c_0 : Ref sig .tc := ⟨.hbm, 460, rfl⟩
abbrev main_call23_v2 : Ref sig .tc := ⟨.hbm, 461, rfl⟩
abbrev main_call23_v3 : Ref sig .tc := ⟨.hbm, 462, rfl⟩
abbrev main_call23_v4 : Ref sig .tc := ⟨.hbm, 463, rfl⟩
abbrev main_call23_v5 : Ref sig .tc := ⟨.hbm, 464, rfl⟩
abbrev main_call23_c_1 : Ref sig .tc := ⟨.hbm, 465, rfl⟩
abbrev main_call23_c_2 : Ref sig .tc := ⟨.hbm, 466, rfl⟩
abbrev main_call23_v6 : Ref sig .tc := ⟨.hbm, 467, rfl⟩
abbrev main_call23_v7 : Ref sig .tc := ⟨.hbm, 468, rfl⟩
abbrev main_call23_v8 : Ref sig .tc := ⟨.hbm, 469, rfl⟩
abbrev main_call23_v9 : Ref sig .tc := ⟨.hbm, 470, rfl⟩
abbrev main_call23_v10 : Ref sig .tc := ⟨.hbm, 471, rfl⟩
abbrev main_call23_v11 : Ref sig .tc := ⟨.hbm, 472, rfl⟩
abbrev main_call23_c_3 : Ref sig .tc := ⟨.hbm, 473, rfl⟩
abbrev main_call23_v12 : Ref sig .tc := ⟨.hbm, 474, rfl⟩
abbrev main_call23_v13 : Ref sig .tc := ⟨.hbm, 475, rfl⟩
abbrev main_call23_cst : Ref sig .tc := ⟨.hbm, 476, rfl⟩
abbrev main_call23_v14 : Ref sig .tc := ⟨.hbm, 477, rfl⟩
abbrev main_v197 : Ref sig .tc := ⟨.hbm, 478, rfl⟩
abbrev main_v198 : Ref sig .tc := ⟨.hbm, 479, rfl⟩
abbrev main_v199 : Ref sig .tc := ⟨.hbm, 480, rfl⟩
abbrev main_v200 : Ref sig .tc := ⟨.hbm, 481, rfl⟩
abbrev main_call24_c : Ref sig .tc := ⟨.hbm, 482, rfl⟩
abbrev main_call24_v0 : Ref sig .tc := ⟨.hbm, 483, rfl⟩
abbrev main_call24_v1 : Ref sig .tc := ⟨.hbm, 484, rfl⟩
abbrev main_call24_c_0 : Ref sig .tc := ⟨.hbm, 485, rfl⟩
abbrev main_call24_v2 : Ref sig .tc := ⟨.hbm, 486, rfl⟩
abbrev main_call24_v3 : Ref sig .tc := ⟨.hbm, 487, rfl⟩
abbrev main_call24_v4 : Ref sig .tc := ⟨.hbm, 488, rfl⟩
abbrev main_call24_v5 : Ref sig .tc := ⟨.hbm, 489, rfl⟩
abbrev main_call24_c_1 : Ref sig .tc := ⟨.hbm, 490, rfl⟩
abbrev main_call24_c_2 : Ref sig .tc := ⟨.hbm, 491, rfl⟩
abbrev main_call24_v6 : Ref sig .tc := ⟨.hbm, 492, rfl⟩
abbrev main_call24_v7 : Ref sig .tc := ⟨.hbm, 493, rfl⟩
abbrev main_call24_v8 : Ref sig .tc := ⟨.hbm, 494, rfl⟩
abbrev main_call24_v9 : Ref sig .tc := ⟨.hbm, 495, rfl⟩
abbrev main_call24_v10 : Ref sig .tc := ⟨.hbm, 496, rfl⟩
abbrev main_call24_v11 : Ref sig .tc := ⟨.hbm, 497, rfl⟩
abbrev main_call24_c_3 : Ref sig .tc := ⟨.hbm, 498, rfl⟩
abbrev main_call24_v12 : Ref sig .tc := ⟨.hbm, 499, rfl⟩
abbrev main_call24_v13 : Ref sig .tc := ⟨.hbm, 500, rfl⟩
abbrev main_call24_cst : Ref sig .tc := ⟨.hbm, 501, rfl⟩
abbrev main_call24_v14 : Ref sig .tc := ⟨.hbm, 502, rfl⟩
abbrev main_v201 : Ref sig .tc := ⟨.hbm, 503, rfl⟩
abbrev main_v202 : Ref sig .tc := ⟨.hbm, 504, rfl⟩
abbrev main_v203 : Ref sig .tc := ⟨.hbm, 505, rfl⟩
abbrev main_call25_c : Ref sig .tc := ⟨.hbm, 506, rfl⟩
abbrev main_call25_v0 : Ref sig .tc := ⟨.hbm, 507, rfl⟩
abbrev main_call25_v1 : Ref sig .tc := ⟨.hbm, 508, rfl⟩
abbrev main_call25_c_0 : Ref sig .tc := ⟨.hbm, 509, rfl⟩
abbrev main_call25_v2 : Ref sig .tc := ⟨.hbm, 510, rfl⟩
abbrev main_call25_v3 : Ref sig .tc := ⟨.hbm, 511, rfl⟩
abbrev main_call25_v4 : Ref sig .tc := ⟨.hbm, 512, rfl⟩
abbrev main_call25_v5 : Ref sig .tc := ⟨.hbm, 513, rfl⟩
abbrev main_call25_c_1 : Ref sig .tc := ⟨.hbm, 514, rfl⟩
abbrev main_call25_c_2 : Ref sig .tc := ⟨.hbm, 515, rfl⟩
abbrev main_call25_v6 : Ref sig .tc := ⟨.hbm, 516, rfl⟩
abbrev main_call25_v7 : Ref sig .tc := ⟨.hbm, 517, rfl⟩
abbrev main_call25_v8 : Ref sig .tc := ⟨.hbm, 518, rfl⟩
abbrev main_call25_v9 : Ref sig .tc := ⟨.hbm, 519, rfl⟩
abbrev main_call25_v10 : Ref sig .tc := ⟨.hbm, 520, rfl⟩
abbrev main_call25_v11 : Ref sig .tc := ⟨.hbm, 521, rfl⟩
abbrev main_call25_c_3 : Ref sig .tc := ⟨.hbm, 522, rfl⟩
abbrev main_call25_v12 : Ref sig .tc := ⟨.hbm, 523, rfl⟩
abbrev main_call25_v13 : Ref sig .tc := ⟨.hbm, 524, rfl⟩
abbrev main_call25_cst : Ref sig .tc := ⟨.hbm, 525, rfl⟩
abbrev main_call25_v14 : Ref sig .tc := ⟨.hbm, 526, rfl⟩
abbrev main_v204 : Ref sig .tc := ⟨.hbm, 527, rfl⟩
abbrev main_v205 : Ref sig .tc := ⟨.hbm, 528, rfl⟩
abbrev main_v206 : Ref sig .tc := ⟨.hbm, 529, rfl⟩
abbrev main_v207 : Ref sig .tc := ⟨.hbm, 530, rfl⟩
abbrev main_call26_c : Ref sig .tc := ⟨.hbm, 531, rfl⟩
abbrev main_call26_v0 : Ref sig .tc := ⟨.hbm, 532, rfl⟩
abbrev main_call26_v1 : Ref sig .tc := ⟨.hbm, 533, rfl⟩
abbrev main_call26_c_0 : Ref sig .tc := ⟨.hbm, 534, rfl⟩
abbrev main_call26_v2 : Ref sig .tc := ⟨.hbm, 535, rfl⟩
abbrev main_call26_v3 : Ref sig .tc := ⟨.hbm, 536, rfl⟩
abbrev main_call26_v4 : Ref sig .tc := ⟨.hbm, 537, rfl⟩
abbrev main_call26_v5 : Ref sig .tc := ⟨.hbm, 538, rfl⟩
abbrev main_call26_c_1 : Ref sig .tc := ⟨.hbm, 539, rfl⟩
abbrev main_call26_c_2 : Ref sig .tc := ⟨.hbm, 540, rfl⟩
abbrev main_call26_v6 : Ref sig .tc := ⟨.hbm, 541, rfl⟩
abbrev main_call26_v7 : Ref sig .tc := ⟨.hbm, 542, rfl⟩
abbrev main_call26_v8 : Ref sig .tc := ⟨.hbm, 543, rfl⟩
abbrev main_call26_v9 : Ref sig .tc := ⟨.hbm, 544, rfl⟩
abbrev main_call26_v10 : Ref sig .tc := ⟨.hbm, 545, rfl⟩
abbrev main_call26_v11 : Ref sig .tc := ⟨.hbm, 546, rfl⟩
abbrev main_call26_c_3 : Ref sig .tc := ⟨.hbm, 547, rfl⟩
abbrev main_call26_v12 : Ref sig .tc := ⟨.hbm, 548, rfl⟩
abbrev main_call26_v13 : Ref sig .tc := ⟨.hbm, 549, rfl⟩
abbrev main_call26_cst : Ref sig .tc := ⟨.hbm, 550, rfl⟩
abbrev main_call26_v14 : Ref sig .tc := ⟨.hbm, 551, rfl⟩
abbrev main_v208 : Ref sig .tc := ⟨.hbm, 552, rfl⟩
abbrev main_v209 : Ref sig .tc := ⟨.hbm, 553, rfl⟩
abbrev main_v210 : Ref sig .tc := ⟨.hbm, 554, rfl⟩
abbrev main_v211 : Ref sig .tc := ⟨.hbm, 555, rfl⟩
abbrev main_call27_c : Ref sig .tc := ⟨.hbm, 556, rfl⟩
abbrev main_call27_v0 : Ref sig .tc := ⟨.hbm, 557, rfl⟩
abbrev main_call27_v1 : Ref sig .tc := ⟨.hbm, 558, rfl⟩
abbrev main_call27_c_0 : Ref sig .tc := ⟨.hbm, 559, rfl⟩
abbrev main_call27_v2 : Ref sig .tc := ⟨.hbm, 560, rfl⟩
abbrev main_call27_v3 : Ref sig .tc := ⟨.hbm, 561, rfl⟩
abbrev main_call27_v4 : Ref sig .tc := ⟨.hbm, 562, rfl⟩
abbrev main_call27_v5 : Ref sig .tc := ⟨.hbm, 563, rfl⟩
abbrev main_call27_c_1 : Ref sig .tc := ⟨.hbm, 564, rfl⟩
abbrev main_call27_c_2 : Ref sig .tc := ⟨.hbm, 565, rfl⟩
abbrev main_call27_v6 : Ref sig .tc := ⟨.hbm, 566, rfl⟩
abbrev main_call27_v7 : Ref sig .tc := ⟨.hbm, 567, rfl⟩
abbrev main_call27_v8 : Ref sig .tc := ⟨.hbm, 568, rfl⟩
abbrev main_call27_v9 : Ref sig .tc := ⟨.hbm, 569, rfl⟩
abbrev main_call27_v10 : Ref sig .tc := ⟨.hbm, 570, rfl⟩
abbrev main_call27_v11 : Ref sig .tc := ⟨.hbm, 571, rfl⟩
abbrev main_call27_c_3 : Ref sig .tc := ⟨.hbm, 572, rfl⟩
abbrev main_call27_v12 : Ref sig .tc := ⟨.hbm, 573, rfl⟩
abbrev main_call27_v13 : Ref sig .tc := ⟨.hbm, 574, rfl⟩
abbrev main_call27_cst : Ref sig .tc := ⟨.hbm, 575, rfl⟩
abbrev main_call27_v14 : Ref sig .tc := ⟨.hbm, 576, rfl⟩
abbrev main_v212 : Ref sig .tc := ⟨.hbm, 577, rfl⟩
abbrev main_v213 : Ref sig .tc := ⟨.hbm, 578, rfl⟩
abbrev main_v214 : Ref sig .tc := ⟨.hbm, 579, rfl⟩
abbrev main_v215 : Ref sig .tc := ⟨.hbm, 580, rfl⟩
abbrev main_cst_44 : Ref sig .tc := ⟨.hbm, 581, rfl⟩
abbrev main_cst_45 : Ref sig .tc := ⟨.hbm, 582, rfl⟩
abbrev main_call28_v0 : Ref sig .tc := ⟨.hbm, 583, rfl⟩
abbrev main_call28_v1 : Ref sig .tc := ⟨.hbm, 584, rfl⟩
abbrev main_call28_v2 : Ref sig .tc := ⟨.hbm, 585, rfl⟩
abbrev main_call28_v3 : Ref sig .tc := ⟨.hbm, 586, rfl⟩
abbrev main_call28_v4 : Ref sig .tc := ⟨.hbm, 587, rfl⟩
abbrev main_v216 : Ref sig .tc := ⟨.hbm, 588, rfl⟩
abbrev main_v217 : Ref sig .tc := ⟨.hbm, 589, rfl⟩
abbrev main_cst_46 : Ref sig .tc := ⟨.hbm, 590, rfl⟩
abbrev main_v218 : Ref sig .tc := ⟨.hbm, 591, rfl⟩
abbrev main_v219 : Ref sig .tc := ⟨.hbm, 592, rfl⟩
abbrev main_v220 : Ref sig .tc := ⟨.hbm, 593, rfl⟩
abbrev main_v221 : Ref sig .tc := ⟨.hbm, 594, rfl⟩
abbrev main_v222 : Ref sig .tc := ⟨.hbm, 595, rfl⟩
abbrev main_v223 : Ref sig .tc := ⟨.hbm, 596, rfl⟩
abbrev main_v224 : Ref sig .tc := ⟨.hbm, 597, rfl⟩
abbrev main_v225 : Ref sig .tc := ⟨.hbm, 598, rfl⟩
abbrev main_v226 : Ref sig .tc := ⟨.hbm, 599, rfl⟩
abbrev main_cst_47 : Ref sig .tc := ⟨.hbm, 600, rfl⟩
abbrev main_v227 : Ref sig .tc := ⟨.hbm, 601, rfl⟩
abbrev main_v228 : Ref sig .tc := ⟨.hbm, 602, rfl⟩
abbrev main_v229 : Ref sig .tc := ⟨.hbm, 603, rfl⟩
abbrev main_v230 : Ref sig .tc := ⟨.hbm, 604, rfl⟩
abbrev main_v231 : Ref sig .tc := ⟨.hbm, 605, rfl⟩
abbrev main_v232 : Ref sig .tc := ⟨.hbm, 606, rfl⟩
abbrev main_v233 : Ref sig .tc := ⟨.hbm, 607, rfl⟩
abbrev main_cst_48 : Ref sig .tc := ⟨.hbm, 608, rfl⟩
abbrev main_v234 : Ref sig .tc := ⟨.hbm, 609, rfl⟩
abbrev main_v235 : Ref sig .tc := ⟨.hbm, 610, rfl⟩
abbrev main_cst_49 : Ref sig .tc := ⟨.hbm, 611, rfl⟩
abbrev main_v236 : Ref sig .tc := ⟨.hbm, 612, rfl⟩
abbrev main_v237 : Ref sig .tc := ⟨.hbm, 613, rfl⟩
abbrev main_v238 : Ref sig .tc := ⟨.hbm, 614, rfl⟩
abbrev main_v239 : Ref sig .tc := ⟨.hbm, 615, rfl⟩
abbrev main_v240 : Ref sig .tc := ⟨.hbm, 616, rfl⟩
abbrev main_v241 : Ref sig .tc := ⟨.hbm, 617, rfl⟩
abbrev main_v242 : Ref sig .tc := ⟨.hbm, 618, rfl⟩
abbrev main_v243 : Ref sig .tc := ⟨.hbm, 619, rfl⟩
abbrev main_v244 : Ref sig .tc := ⟨.hbm, 620, rfl⟩
abbrev main_v245 : Ref sig .tc := ⟨.hbm, 621, rfl⟩
abbrev main_v246 : Ref sig .tc := ⟨.hbm, 622, rfl⟩
abbrev main_v247 : Ref sig .tc := ⟨.hbm, 623, rfl⟩
abbrev main_v248 : Ref sig .tc := ⟨.hbm, 624, rfl⟩
abbrev main_cst_50 : Ref sig .tc := ⟨.hbm, 625, rfl⟩
abbrev main_v249 : Ref sig .tc := ⟨.hbm, 626, rfl⟩
abbrev main_cst_51 : Ref sig .tc := ⟨.hbm, 627, rfl⟩
abbrev main_v250 : Ref sig .tc := ⟨.hbm, 628, rfl⟩
abbrev main_v251 : Ref sig .tc := ⟨.hbm, 629, rfl⟩
abbrev main_v252 : Ref sig .tc := ⟨.hbm, 630, rfl⟩
abbrev main_v253 : Ref sig .tc := ⟨.hbm, 631, rfl⟩
abbrev main_v254 : Ref sig .tc := ⟨.hbm, 632, rfl⟩
abbrev main_v255 : Ref sig .tc := ⟨.hbm, 633, rfl⟩
abbrev main_cst_52 : Ref sig .tc := ⟨.hbm, 634, rfl⟩
abbrev main_v256 : Ref sig .tc := ⟨.hbm, 635, rfl⟩
abbrev main_v257 : Ref sig .tc := ⟨.hbm, 636, rfl⟩
abbrev main_v258 : Ref sig .tc := ⟨.hbm, 637, rfl⟩
abbrev main_v259 : Ref sig .tc := ⟨.hbm, 638, rfl⟩
abbrev main_cst_53 : Ref sig .tc := ⟨.hbm, 639, rfl⟩
abbrev main_v260 : Ref sig .tc := ⟨.hbm, 640, rfl⟩
abbrev main_v261 : Ref sig .tc := ⟨.hbm, 641, rfl⟩
abbrev main_cst_54 : Ref sig .tc := ⟨.hbm, 642, rfl⟩
abbrev main_v262 : Ref sig .tc := ⟨.hbm, 643, rfl⟩
abbrev main_v263 : Ref sig .tc := ⟨.hbm, 644, rfl⟩
abbrev main_v264 : Ref sig .tc := ⟨.hbm, 645, rfl⟩
abbrev main_cst_55 : Ref sig .tc := ⟨.hbm, 646, rfl⟩
abbrev main_v265 : Ref sig .tc := ⟨.hbm, 647, rfl⟩
abbrev main_cst_56 : Ref sig .tc := ⟨.hbm, 648, rfl⟩
abbrev main_v266 : Ref sig .tc := ⟨.hbm, 649, rfl⟩
abbrev main_v267 : Ref sig .tc := ⟨.hbm, 650, rfl⟩
abbrev main_v268 : Ref sig .tc := ⟨.hbm, 651, rfl⟩
abbrev main_v269 : Ref sig .tc := ⟨.hbm, 652, rfl⟩
abbrev main_v270 : Ref sig .tc := ⟨.hbm, 653, rfl⟩
abbrev main_v271 : Ref sig .tc := ⟨.hbm, 654, rfl⟩
abbrev main_cst_57 : Ref sig .tc := ⟨.hbm, 655, rfl⟩
abbrev main_v272 : Ref sig .tc := ⟨.hbm, 656, rfl⟩
abbrev main_v273 : Ref sig .tc := ⟨.hbm, 657, rfl⟩
abbrev main_v274 : Ref sig .tc := ⟨.hbm, 658, rfl⟩
abbrev main_v275 : Ref sig .tc := ⟨.hbm, 659, rfl⟩
abbrev main_cst_58 : Ref sig .tc := ⟨.hbm, 660, rfl⟩
abbrev main_v276 : Ref sig .tc := ⟨.hbm, 661, rfl⟩
abbrev main_v277 : Ref sig .tc := ⟨.hbm, 662, rfl⟩
abbrev main_cst_59 : Ref sig .tc := ⟨.hbm, 663, rfl⟩
abbrev main_v278 : Ref sig .tc := ⟨.hbm, 664, rfl⟩
abbrev main_v279 : Ref sig .tc := ⟨.hbm, 665, rfl⟩
abbrev main_v280 : Ref sig .tc := ⟨.hbm, 666, rfl⟩
abbrev main_cst_60 : Ref sig .tc := ⟨.hbm, 667, rfl⟩
abbrev main_v281 : Ref sig .tc := ⟨.hbm, 668, rfl⟩
abbrev main_v282 : Ref sig .tc := ⟨.hbm, 669, rfl⟩
abbrev main_call30_cst : Ref sig .tc := ⟨.hbm, 670, rfl⟩
abbrev main_call30_v0 : Ref sig .tc := ⟨.hbm, 671, rfl⟩
abbrev main_call30_v1 : Ref sig .tc := ⟨.hbm, 672, rfl⟩
abbrev main_call30_v2 : Ref sig .tc := ⟨.hbm, 673, rfl⟩
abbrev main_call30_v3 : Ref sig .tc := ⟨.hbm, 674, rfl⟩
abbrev main_call30_v4 : Ref sig .tc := ⟨.hbm, 675, rfl⟩
abbrev main_call30_v5 : Ref sig .tc := ⟨.hbm, 676, rfl⟩
abbrev main_call30_v6 : Ref sig .tc := ⟨.hbm, 677, rfl⟩
abbrev main_call30_v7 : Ref sig .tc := ⟨.hbm, 678, rfl⟩
abbrev main_call30_v8 : Ref sig .tc := ⟨.hbm, 679, rfl⟩
abbrev main_call30_v9 : Ref sig .tc := ⟨.hbm, 680, rfl⟩
abbrev main_call30_v10 : Ref sig .tc := ⟨.hbm, 681, rfl⟩
abbrev main_call30_v11 : Ref sig .tc := ⟨.hbm, 682, rfl⟩
abbrev main_v283 : Ref sig .tc := ⟨.hbm, 683, rfl⟩
abbrev main_cst_61 : Ref sig .tc := ⟨.hbm, 684, rfl⟩
abbrev main_v284 : Ref sig .tc := ⟨.hbm, 685, rfl⟩
abbrev main_v285 : Ref sig .tc := ⟨.hbm, 686, rfl⟩
abbrev main_call31_call0_cst : Ref sig .tc := ⟨.hbm, 687, rfl⟩
abbrev main_call31_call0_v0 : Ref sig .tc := ⟨.hbm, 688, rfl⟩
abbrev main_v286 : Ref sig .tc := ⟨.hbm, 689, rfl⟩
abbrev main_c_62 : Ref sig .tc := ⟨.hbm, 690, rfl⟩
abbrev main_call32_v0 : Ref sig .tc := ⟨.hbm, 691, rfl⟩
abbrev main_v287 : Ref sig .tc := ⟨.hbm, 692, rfl⟩
abbrev main_cst_63 : Ref sig .tc := ⟨.hbm, 693, rfl⟩
abbrev main_v288 : Ref sig .tc := ⟨.hbm, 694, rfl⟩
abbrev main_v289 : Ref sig .tc := ⟨.hbm, 695, rfl⟩
abbrev main_call33_call0_cst : Ref sig .tc := ⟨.hbm, 696, rfl⟩
abbrev main_call33_call0_v0 : Ref sig .tc := ⟨.hbm, 697, rfl⟩
abbrev main_v290 : Ref sig .tc := ⟨.hbm, 698, rfl⟩
abbrev main_c_64 : Ref sig .tc := ⟨.hbm, 699, rfl⟩
abbrev main_call34_v0 : Ref sig .tc := ⟨.hbm, 700, rfl⟩
abbrev main_v291 : Ref sig .tc := ⟨.hbm, 701, rfl⟩
abbrev main_cst_65 : Ref sig .tc := ⟨.hbm, 702, rfl⟩
abbrev main_v292 : Ref sig .tc := ⟨.hbm, 703, rfl⟩
abbrev main_v293 : Ref sig .tc := ⟨.hbm, 704, rfl⟩
abbrev main_v294 : Ref sig .tc := ⟨.hbm, 705, rfl⟩
abbrev main_v295 : Ref sig .tc := ⟨.hbm, 706, rfl⟩
abbrev main_v296 : Ref sig .tc := ⟨.hbm, 707, rfl⟩
abbrev main_v297 : Ref sig .tc := ⟨.hbm, 708, rfl⟩
abbrev main_c_66 : Ref sig .tc := ⟨.hbm, 709, rfl⟩
abbrev main_v298 : Ref sig .tc := ⟨.hbm, 710, rfl⟩
abbrev main_c_67 : Ref sig .tc := ⟨.hbm, 711, rfl⟩
abbrev main_v299 : Ref sig .tc := ⟨.hbm, 712, rfl⟩
abbrev main_v300 : Ref sig .tc := ⟨.hbm, 713, rfl⟩
abbrev main_c_68 : Ref sig .tc := ⟨.hbm, 714, rfl⟩
abbrev main_c_69 : Ref sig .tc := ⟨.hbm, 715, rfl⟩
abbrev main_call35_v0 : Ref sig .tc := ⟨.hbm, 716, rfl⟩
abbrev main_call35_v1 : Ref sig .tc := ⟨.hbm, 717, rfl⟩
abbrev main_call35_v2 : Ref sig .tc := ⟨.hbm, 718, rfl⟩
abbrev main_call35_v3 : Ref sig .tc := ⟨.hbm, 719, rfl⟩
abbrev main_call35_v4 : Ref sig .tc := ⟨.hbm, 720, rfl⟩
abbrev main_v301 : Ref sig .tc := ⟨.hbm, 721, rfl⟩
abbrev main_v302 : Ref sig .tc := ⟨.hbm, 722, rfl⟩
abbrev main_v303 : Ref sig .tc := ⟨.hbm, 723, rfl⟩
abbrev main_call36_c : Ref sig .tc := ⟨.hbm, 724, rfl⟩
abbrev main_call36_v0 : Ref sig .tc := ⟨.hbm, 725, rfl⟩
abbrev main_call36_v1 : Ref sig .tc := ⟨.hbm, 726, rfl⟩
abbrev main_call36_c_0 : Ref sig .tc := ⟨.hbm, 727, rfl⟩
abbrev main_call36_v2 : Ref sig .tc := ⟨.hbm, 728, rfl⟩
abbrev main_call36_v3 : Ref sig .tc := ⟨.hbm, 729, rfl⟩
abbrev main_call36_v4 : Ref sig .tc := ⟨.hbm, 730, rfl⟩
abbrev main_call36_v5 : Ref sig .tc := ⟨.hbm, 731, rfl⟩
abbrev main_call36_c_1 : Ref sig .tc := ⟨.hbm, 732, rfl⟩
abbrev main_call36_c_2 : Ref sig .tc := ⟨.hbm, 733, rfl⟩
abbrev main_call36_v6 : Ref sig .tc := ⟨.hbm, 734, rfl⟩
abbrev main_call36_v7 : Ref sig .tc := ⟨.hbm, 735, rfl⟩
abbrev main_call36_v8 : Ref sig .tc := ⟨.hbm, 736, rfl⟩
abbrev main_call36_v9 : Ref sig .tc := ⟨.hbm, 737, rfl⟩
abbrev main_call36_v10 : Ref sig .tc := ⟨.hbm, 738, rfl⟩
abbrev main_call36_v11 : Ref sig .tc := ⟨.hbm, 739, rfl⟩
abbrev main_call36_c_3 : Ref sig .tc := ⟨.hbm, 740, rfl⟩
abbrev main_call36_v12 : Ref sig .tc := ⟨.hbm, 741, rfl⟩
abbrev main_call36_v13 : Ref sig .tc := ⟨.hbm, 742, rfl⟩
abbrev main_call36_cst : Ref sig .tc := ⟨.hbm, 743, rfl⟩
abbrev main_call36_v14 : Ref sig .tc := ⟨.hbm, 744, rfl⟩
abbrev main_v304 : Ref sig .tc := ⟨.hbm, 745, rfl⟩
abbrev main_v305 : Ref sig .tc := ⟨.hbm, 746, rfl⟩
abbrev main_v306 : Ref sig .tc := ⟨.hbm, 747, rfl⟩
abbrev main_call37_c : Ref sig .tc := ⟨.hbm, 748, rfl⟩
abbrev main_call37_v0 : Ref sig .tc := ⟨.hbm, 749, rfl⟩
abbrev main_call37_v1 : Ref sig .tc := ⟨.hbm, 750, rfl⟩
abbrev main_call37_c_0 : Ref sig .tc := ⟨.hbm, 751, rfl⟩
abbrev main_call37_v2 : Ref sig .tc := ⟨.hbm, 752, rfl⟩
abbrev main_call37_v3 : Ref sig .tc := ⟨.hbm, 753, rfl⟩
abbrev main_call37_v4 : Ref sig .tc := ⟨.hbm, 754, rfl⟩
abbrev main_call37_v5 : Ref sig .tc := ⟨.hbm, 755, rfl⟩
abbrev main_call37_c_1 : Ref sig .tc := ⟨.hbm, 756, rfl⟩
abbrev main_call37_c_2 : Ref sig .tc := ⟨.hbm, 757, rfl⟩
abbrev main_call37_v6 : Ref sig .tc := ⟨.hbm, 758, rfl⟩
abbrev main_call37_v7 : Ref sig .tc := ⟨.hbm, 759, rfl⟩
abbrev main_call37_v8 : Ref sig .tc := ⟨.hbm, 760, rfl⟩
abbrev main_call37_v9 : Ref sig .tc := ⟨.hbm, 761, rfl⟩
abbrev main_call37_v10 : Ref sig .tc := ⟨.hbm, 762, rfl⟩
abbrev main_call37_v11 : Ref sig .tc := ⟨.hbm, 763, rfl⟩
abbrev main_call37_c_3 : Ref sig .tc := ⟨.hbm, 764, rfl⟩
abbrev main_call37_v12 : Ref sig .tc := ⟨.hbm, 765, rfl⟩
abbrev main_call37_v13 : Ref sig .tc := ⟨.hbm, 766, rfl⟩
abbrev main_call37_cst : Ref sig .tc := ⟨.hbm, 767, rfl⟩
abbrev main_call37_v14 : Ref sig .tc := ⟨.hbm, 768, rfl⟩
abbrev main_v307 : Ref sig .tc := ⟨.hbm, 769, rfl⟩
abbrev main_v308 : Ref sig .tc := ⟨.hbm, 770, rfl⟩
abbrev main_v309 : Ref sig .tc := ⟨.hbm, 771, rfl⟩
abbrev main_v310 : Ref sig .tc := ⟨.hbm, 772, rfl⟩
abbrev main_call38_c : Ref sig .tc := ⟨.hbm, 773, rfl⟩
abbrev main_call38_v0 : Ref sig .tc := ⟨.hbm, 774, rfl⟩
abbrev main_call38_v1 : Ref sig .tc := ⟨.hbm, 775, rfl⟩
abbrev main_call38_c_0 : Ref sig .tc := ⟨.hbm, 776, rfl⟩
abbrev main_call38_v2 : Ref sig .tc := ⟨.hbm, 777, rfl⟩
abbrev main_call38_v3 : Ref sig .tc := ⟨.hbm, 778, rfl⟩
abbrev main_call38_v4 : Ref sig .tc := ⟨.hbm, 779, rfl⟩
abbrev main_call38_v5 : Ref sig .tc := ⟨.hbm, 780, rfl⟩
abbrev main_call38_c_1 : Ref sig .tc := ⟨.hbm, 781, rfl⟩
abbrev main_call38_c_2 : Ref sig .tc := ⟨.hbm, 782, rfl⟩
abbrev main_call38_v6 : Ref sig .tc := ⟨.hbm, 783, rfl⟩
abbrev main_call38_v7 : Ref sig .tc := ⟨.hbm, 784, rfl⟩
abbrev main_call38_v8 : Ref sig .tc := ⟨.hbm, 785, rfl⟩
abbrev main_call38_v9 : Ref sig .tc := ⟨.hbm, 786, rfl⟩
abbrev main_call38_v10 : Ref sig .tc := ⟨.hbm, 787, rfl⟩
abbrev main_call38_v11 : Ref sig .tc := ⟨.hbm, 788, rfl⟩
abbrev main_call38_c_3 : Ref sig .tc := ⟨.hbm, 789, rfl⟩
abbrev main_call38_v12 : Ref sig .tc := ⟨.hbm, 790, rfl⟩
abbrev main_call38_v13 : Ref sig .tc := ⟨.hbm, 791, rfl⟩
abbrev main_call38_cst : Ref sig .tc := ⟨.hbm, 792, rfl⟩
abbrev main_call38_v14 : Ref sig .tc := ⟨.hbm, 793, rfl⟩
abbrev main_v311 : Ref sig .tc := ⟨.hbm, 794, rfl⟩
abbrev main_v312 : Ref sig .tc := ⟨.hbm, 795, rfl⟩
abbrev main_v313 : Ref sig .tc := ⟨.hbm, 796, rfl⟩
abbrev main_call39_c : Ref sig .tc := ⟨.hbm, 797, rfl⟩
abbrev main_call39_v0 : Ref sig .tc := ⟨.hbm, 798, rfl⟩
abbrev main_call39_v1 : Ref sig .tc := ⟨.hbm, 799, rfl⟩
abbrev main_call39_c_0 : Ref sig .tc := ⟨.hbm, 800, rfl⟩
abbrev main_call39_v2 : Ref sig .tc := ⟨.hbm, 801, rfl⟩
abbrev main_call39_v3 : Ref sig .tc := ⟨.hbm, 802, rfl⟩
abbrev main_call39_v4 : Ref sig .tc := ⟨.hbm, 803, rfl⟩
abbrev main_call39_v5 : Ref sig .tc := ⟨.hbm, 804, rfl⟩
abbrev main_call39_c_1 : Ref sig .tc := ⟨.hbm, 805, rfl⟩
abbrev main_call39_c_2 : Ref sig .tc := ⟨.hbm, 806, rfl⟩
abbrev main_call39_v6 : Ref sig .tc := ⟨.hbm, 807, rfl⟩
abbrev main_call39_v7 : Ref sig .tc := ⟨.hbm, 808, rfl⟩
abbrev main_call39_v8 : Ref sig .tc := ⟨.hbm, 809, rfl⟩
abbrev main_call39_v9 : Ref sig .tc := ⟨.hbm, 810, rfl⟩
abbrev main_call39_v10 : Ref sig .tc := ⟨.hbm, 811, rfl⟩
abbrev main_call39_v11 : Ref sig .tc := ⟨.hbm, 812, rfl⟩
abbrev main_call39_c_3 : Ref sig .tc := ⟨.hbm, 813, rfl⟩
abbrev main_call39_v12 : Ref sig .tc := ⟨.hbm, 814, rfl⟩
abbrev main_call39_v13 : Ref sig .tc := ⟨.hbm, 815, rfl⟩
abbrev main_call39_cst : Ref sig .tc := ⟨.hbm, 816, rfl⟩
abbrev main_call39_v14 : Ref sig .tc := ⟨.hbm, 817, rfl⟩
abbrev main_v314 : Ref sig .tc := ⟨.hbm, 818, rfl⟩
abbrev main_v315 : Ref sig .tc := ⟨.hbm, 819, rfl⟩
abbrev main_v316 : Ref sig .tc := ⟨.hbm, 820, rfl⟩
abbrev main_v317 : Ref sig .tc := ⟨.hbm, 821, rfl⟩
abbrev main_call40_c : Ref sig .tc := ⟨.hbm, 822, rfl⟩
abbrev main_call40_v0 : Ref sig .tc := ⟨.hbm, 823, rfl⟩
abbrev main_call40_v1 : Ref sig .tc := ⟨.hbm, 824, rfl⟩
abbrev main_call40_c_0 : Ref sig .tc := ⟨.hbm, 825, rfl⟩
abbrev main_call40_v2 : Ref sig .tc := ⟨.hbm, 826, rfl⟩
abbrev main_call40_v3 : Ref sig .tc := ⟨.hbm, 827, rfl⟩
abbrev main_call40_v4 : Ref sig .tc := ⟨.hbm, 828, rfl⟩
abbrev main_call40_v5 : Ref sig .tc := ⟨.hbm, 829, rfl⟩
abbrev main_call40_c_1 : Ref sig .tc := ⟨.hbm, 830, rfl⟩
abbrev main_call40_c_2 : Ref sig .tc := ⟨.hbm, 831, rfl⟩
abbrev main_call40_v6 : Ref sig .tc := ⟨.hbm, 832, rfl⟩
abbrev main_call40_v7 : Ref sig .tc := ⟨.hbm, 833, rfl⟩
abbrev main_call40_v8 : Ref sig .tc := ⟨.hbm, 834, rfl⟩
abbrev main_call40_v9 : Ref sig .tc := ⟨.hbm, 835, rfl⟩
abbrev main_call40_v10 : Ref sig .tc := ⟨.hbm, 836, rfl⟩
abbrev main_call40_v11 : Ref sig .tc := ⟨.hbm, 837, rfl⟩
abbrev main_call40_c_3 : Ref sig .tc := ⟨.hbm, 838, rfl⟩
abbrev main_call40_v12 : Ref sig .tc := ⟨.hbm, 839, rfl⟩
abbrev main_call40_v13 : Ref sig .tc := ⟨.hbm, 840, rfl⟩
abbrev main_call40_cst : Ref sig .tc := ⟨.hbm, 841, rfl⟩
abbrev main_call40_v14 : Ref sig .tc := ⟨.hbm, 842, rfl⟩
abbrev main_v318 : Ref sig .tc := ⟨.hbm, 843, rfl⟩
abbrev main_v319 : Ref sig .tc := ⟨.hbm, 844, rfl⟩
abbrev main_v320 : Ref sig .tc := ⟨.hbm, 845, rfl⟩
abbrev main_v321 : Ref sig .tc := ⟨.hbm, 846, rfl⟩
abbrev main_call41_c : Ref sig .tc := ⟨.hbm, 847, rfl⟩
abbrev main_call41_v0 : Ref sig .tc := ⟨.hbm, 848, rfl⟩
abbrev main_call41_v1 : Ref sig .tc := ⟨.hbm, 849, rfl⟩
abbrev main_call41_c_0 : Ref sig .tc := ⟨.hbm, 850, rfl⟩
abbrev main_call41_v2 : Ref sig .tc := ⟨.hbm, 851, rfl⟩
abbrev main_call41_v3 : Ref sig .tc := ⟨.hbm, 852, rfl⟩
abbrev main_call41_v4 : Ref sig .tc := ⟨.hbm, 853, rfl⟩
abbrev main_call41_v5 : Ref sig .tc := ⟨.hbm, 854, rfl⟩
abbrev main_call41_c_1 : Ref sig .tc := ⟨.hbm, 855, rfl⟩
abbrev main_call41_c_2 : Ref sig .tc := ⟨.hbm, 856, rfl⟩
abbrev main_call41_v6 : Ref sig .tc := ⟨.hbm, 857, rfl⟩
abbrev main_call41_v7 : Ref sig .tc := ⟨.hbm, 858, rfl⟩
abbrev main_call41_v8 : Ref sig .tc := ⟨.hbm, 859, rfl⟩
abbrev main_call41_v9 : Ref sig .tc := ⟨.hbm, 860, rfl⟩
abbrev main_call41_v10 : Ref sig .tc := ⟨.hbm, 861, rfl⟩
abbrev main_call41_v11 : Ref sig .tc := ⟨.hbm, 862, rfl⟩
abbrev main_call41_c_3 : Ref sig .tc := ⟨.hbm, 863, rfl⟩
abbrev main_call41_v12 : Ref sig .tc := ⟨.hbm, 864, rfl⟩
abbrev main_call41_v13 : Ref sig .tc := ⟨.hbm, 865, rfl⟩
abbrev main_call41_cst : Ref sig .tc := ⟨.hbm, 866, rfl⟩
abbrev main_call41_v14 : Ref sig .tc := ⟨.hbm, 867, rfl⟩
abbrev main_v322 : Ref sig .tc := ⟨.hbm, 868, rfl⟩
abbrev main_v323 : Ref sig .tc := ⟨.hbm, 869, rfl⟩
abbrev main_v324 : Ref sig .tc := ⟨.hbm, 870, rfl⟩
abbrev main_v325 : Ref sig .tc := ⟨.hbm, 871, rfl⟩
abbrev main_cst_70 : Ref sig .tc := ⟨.hbm, 872, rfl⟩
abbrev main_cst_71 : Ref sig .tc := ⟨.hbm, 873, rfl⟩
abbrev main_call42_v0 : Ref sig .tc := ⟨.hbm, 874, rfl⟩
abbrev main_call42_v1 : Ref sig .tc := ⟨.hbm, 875, rfl⟩
abbrev main_call42_v2 : Ref sig .tc := ⟨.hbm, 876, rfl⟩
abbrev main_call42_v3 : Ref sig .tc := ⟨.hbm, 877, rfl⟩
abbrev main_call42_v4 : Ref sig .tc := ⟨.hbm, 878, rfl⟩
abbrev main_v326 : Ref sig .tc := ⟨.hbm, 879, rfl⟩
abbrev main_v327 : Ref sig .tc := ⟨.hbm, 880, rfl⟩
abbrev main_cst_72 : Ref sig .tc := ⟨.hbm, 881, rfl⟩
abbrev main_v328 : Ref sig .tc := ⟨.hbm, 882, rfl⟩
abbrev main_v329 : Ref sig .tc := ⟨.hbm, 883, rfl⟩
abbrev main_v330 : Ref sig .tc := ⟨.hbm, 884, rfl⟩
abbrev main_v331 : Ref sig .tc := ⟨.hbm, 885, rfl⟩
abbrev main_v332 : Ref sig .tc := ⟨.hbm, 886, rfl⟩
abbrev main_v333 : Ref sig .tc := ⟨.hbm, 887, rfl⟩
abbrev main_v334 : Ref sig .tc := ⟨.hbm, 888, rfl⟩
abbrev main_v335 : Ref sig .tc := ⟨.hbm, 889, rfl⟩
abbrev main_v336 : Ref sig .tc := ⟨.hbm, 890, rfl⟩
abbrev main_cst_73 : Ref sig .tc := ⟨.hbm, 891, rfl⟩
abbrev main_v337 : Ref sig .tc := ⟨.hbm, 892, rfl⟩
abbrev main_v338 : Ref sig .tc := ⟨.hbm, 893, rfl⟩
abbrev main_v339 : Ref sig .tc := ⟨.hbm, 894, rfl⟩
abbrev main_v340 : Ref sig .tc := ⟨.hbm, 895, rfl⟩
abbrev main_v341 : Ref sig .tc := ⟨.hbm, 896, rfl⟩
abbrev main_v342 : Ref sig .tc := ⟨.hbm, 897, rfl⟩
abbrev main_v343 : Ref sig .tc := ⟨.hbm, 898, rfl⟩
abbrev main_cst_74 : Ref sig .tc := ⟨.hbm, 899, rfl⟩
abbrev main_v344 : Ref sig .tc := ⟨.hbm, 900, rfl⟩
abbrev main_v345 : Ref sig .tc := ⟨.hbm, 901, rfl⟩
abbrev main_cst_75 : Ref sig .tc := ⟨.hbm, 902, rfl⟩
abbrev main_v346 : Ref sig .tc := ⟨.hbm, 903, rfl⟩
abbrev main_v347 : Ref sig .tc := ⟨.hbm, 904, rfl⟩
abbrev main_v348 : Ref sig .tc := ⟨.hbm, 905, rfl⟩
abbrev main_v349 : Ref sig .tc := ⟨.hbm, 906, rfl⟩
abbrev main_v350 : Ref sig .tc := ⟨.hbm, 907, rfl⟩
abbrev main_v351 : Ref sig .tc := ⟨.hbm, 908, rfl⟩
abbrev main_v352 : Ref sig .tc := ⟨.hbm, 909, rfl⟩
abbrev main_v353 : Ref sig .tc := ⟨.hbm, 910, rfl⟩
abbrev main_v354 : Ref sig .tc := ⟨.hbm, 911, rfl⟩
abbrev main_v355 : Ref sig .tc := ⟨.hbm, 912, rfl⟩
abbrev main_v356 : Ref sig .tc := ⟨.hbm, 913, rfl⟩
abbrev main_v357 : Ref sig .tc := ⟨.hbm, 914, rfl⟩
abbrev main_v358 : Ref sig .tc := ⟨.hbm, 915, rfl⟩
abbrev main_cst_76 : Ref sig .tc := ⟨.hbm, 916, rfl⟩
abbrev main_v359 : Ref sig .tc := ⟨.hbm, 917, rfl⟩
abbrev main_cst_77 : Ref sig .tc := ⟨.hbm, 918, rfl⟩
abbrev main_v360 : Ref sig .tc := ⟨.hbm, 919, rfl⟩
abbrev main_v361 : Ref sig .tc := ⟨.hbm, 920, rfl⟩
abbrev main_v362 : Ref sig .tc := ⟨.hbm, 921, rfl⟩
abbrev main_v363 : Ref sig .tc := ⟨.hbm, 922, rfl⟩
abbrev main_v364 : Ref sig .tc := ⟨.hbm, 923, rfl⟩
abbrev main_v365 : Ref sig .tc := ⟨.hbm, 924, rfl⟩
abbrev main_cst_78 : Ref sig .tc := ⟨.hbm, 925, rfl⟩
abbrev main_v366 : Ref sig .tc := ⟨.hbm, 926, rfl⟩
abbrev main_v367 : Ref sig .tc := ⟨.hbm, 927, rfl⟩
abbrev main_v368 : Ref sig .tc := ⟨.hbm, 928, rfl⟩
abbrev main_v369 : Ref sig .tc := ⟨.hbm, 929, rfl⟩
abbrev main_cst_79 : Ref sig .tc := ⟨.hbm, 930, rfl⟩
abbrev main_v370 : Ref sig .tc := ⟨.hbm, 931, rfl⟩
abbrev main_v371 : Ref sig .tc := ⟨.hbm, 932, rfl⟩
abbrev main_cst_80 : Ref sig .tc := ⟨.hbm, 933, rfl⟩
abbrev main_v372 : Ref sig .tc := ⟨.hbm, 934, rfl⟩
abbrev main_v373 : Ref sig .tc := ⟨.hbm, 935, rfl⟩
abbrev main_v374 : Ref sig .tc := ⟨.hbm, 936, rfl⟩
abbrev main_cst_81 : Ref sig .tc := ⟨.hbm, 937, rfl⟩
abbrev main_v375 : Ref sig .tc := ⟨.hbm, 938, rfl⟩
abbrev main_cst_82 : Ref sig .tc := ⟨.hbm, 939, rfl⟩
abbrev main_v376 : Ref sig .tc := ⟨.hbm, 940, rfl⟩
abbrev main_v377 : Ref sig .tc := ⟨.hbm, 941, rfl⟩
abbrev main_v378 : Ref sig .tc := ⟨.hbm, 942, rfl⟩
abbrev main_v379 : Ref sig .tc := ⟨.hbm, 943, rfl⟩
abbrev main_v380 : Ref sig .tc := ⟨.hbm, 944, rfl⟩
abbrev main_v381 : Ref sig .tc := ⟨.hbm, 945, rfl⟩
abbrev main_cst_83 : Ref sig .tc := ⟨.hbm, 946, rfl⟩
abbrev main_v382 : Ref sig .tc := ⟨.hbm, 947, rfl⟩
abbrev main_v383 : Ref sig .tc := ⟨.hbm, 948, rfl⟩
abbrev main_v384 : Ref sig .tc := ⟨.hbm, 949, rfl⟩
abbrev main_v385 : Ref sig .tc := ⟨.hbm, 950, rfl⟩
abbrev main_cst_84 : Ref sig .tc := ⟨.hbm, 951, rfl⟩
abbrev main_v386 : Ref sig .tc := ⟨.hbm, 952, rfl⟩
abbrev main_v387 : Ref sig .tc := ⟨.hbm, 953, rfl⟩
abbrev main_cst_85 : Ref sig .tc := ⟨.hbm, 954, rfl⟩
abbrev main_v388 : Ref sig .tc := ⟨.hbm, 955, rfl⟩
abbrev main_v389 : Ref sig .tc := ⟨.hbm, 956, rfl⟩
abbrev main_v390 : Ref sig .tc := ⟨.hbm, 957, rfl⟩
abbrev main_cst_86 : Ref sig .tc := ⟨.hbm, 958, rfl⟩
abbrev main_v391 : Ref sig .tc := ⟨.hbm, 959, rfl⟩
abbrev main_v392 : Ref sig .tc := ⟨.hbm, 960, rfl⟩
abbrev main_call44_cst : Ref sig .tc := ⟨.hbm, 961, rfl⟩
abbrev main_call44_v0 : Ref sig .tc := ⟨.hbm, 962, rfl⟩
abbrev main_call44_v1 : Ref sig .tc := ⟨.hbm, 963, rfl⟩
abbrev main_call44_v2 : Ref sig .tc := ⟨.hbm, 964, rfl⟩
abbrev main_call44_v3 : Ref sig .tc := ⟨.hbm, 965, rfl⟩
abbrev main_call44_v4 : Ref sig .tc := ⟨.hbm, 966, rfl⟩
abbrev main_call44_v5 : Ref sig .tc := ⟨.hbm, 967, rfl⟩
abbrev main_call44_v6 : Ref sig .tc := ⟨.hbm, 968, rfl⟩
abbrev main_call44_v7 : Ref sig .tc := ⟨.hbm, 969, rfl⟩
abbrev main_call44_v8 : Ref sig .tc := ⟨.hbm, 970, rfl⟩
abbrev main_call44_v9 : Ref sig .tc := ⟨.hbm, 971, rfl⟩
abbrev main_call44_v10 : Ref sig .tc := ⟨.hbm, 972, rfl⟩
abbrev main_call44_v11 : Ref sig .tc := ⟨.hbm, 973, rfl⟩
abbrev main_v393 : Ref sig .tc := ⟨.hbm, 974, rfl⟩
abbrev main_cst_87 : Ref sig .tc := ⟨.hbm, 975, rfl⟩
abbrev main_v394 : Ref sig .tc := ⟨.hbm, 976, rfl⟩
abbrev main_v395 : Ref sig .tc := ⟨.hbm, 977, rfl⟩
abbrev main_call45_call0_cst : Ref sig .tc := ⟨.hbm, 978, rfl⟩
abbrev main_call45_call0_v0 : Ref sig .tc := ⟨.hbm, 979, rfl⟩
abbrev main_v396 : Ref sig .tc := ⟨.hbm, 980, rfl⟩
abbrev main_c_88 : Ref sig .tc := ⟨.hbm, 981, rfl⟩
abbrev main_call46_v0 : Ref sig .tc := ⟨.hbm, 982, rfl⟩
abbrev main_v397 : Ref sig .tc := ⟨.hbm, 983, rfl⟩
abbrev main_cst_89 : Ref sig .tc := ⟨.hbm, 984, rfl⟩
abbrev main_v398 : Ref sig .tc := ⟨.hbm, 985, rfl⟩
abbrev main_v399 : Ref sig .tc := ⟨.hbm, 986, rfl⟩
abbrev main_call47_call0_cst : Ref sig .tc := ⟨.hbm, 987, rfl⟩
abbrev main_call47_call0_v0 : Ref sig .tc := ⟨.hbm, 988, rfl⟩
abbrev main_v400 : Ref sig .tc := ⟨.hbm, 989, rfl⟩
abbrev main_c_90 : Ref sig .tc := ⟨.hbm, 990, rfl⟩
abbrev main_call48_v0 : Ref sig .tc := ⟨.hbm, 991, rfl⟩
abbrev main_v401 : Ref sig .tc := ⟨.hbm, 992, rfl⟩
abbrev main_cst_91 : Ref sig .tc := ⟨.hbm, 993, rfl⟩
abbrev main_v402 : Ref sig .tc := ⟨.hbm, 994, rfl⟩
abbrev main_v403 : Ref sig .tc := ⟨.hbm, 995, rfl⟩
abbrev main_v404 : Ref sig .tc := ⟨.hbm, 996, rfl⟩
abbrev main_v405 : Ref sig .tc := ⟨.hbm, 997, rfl⟩
abbrev main_v406 : Ref sig .tc := ⟨.hbm, 998, rfl⟩
abbrev main_v407 : Ref sig .tc := ⟨.hbm, 999, rfl⟩
abbrev main_c_92 : Ref sig .tc := ⟨.hbm, 1000, rfl⟩
abbrev main_v408 : Ref sig .tc := ⟨.hbm, 1001, rfl⟩
abbrev main_c_93 : Ref sig .tc := ⟨.hbm, 1002, rfl⟩
abbrev main_v409 : Ref sig .tc := ⟨.hbm, 1003, rfl⟩
abbrev main_v410 : Ref sig .tc := ⟨.hbm, 1004, rfl⟩
abbrev main_c_94 : Ref sig .tc := ⟨.hbm, 1005, rfl⟩
abbrev main_c_95 : Ref sig .tc := ⟨.hbm, 1006, rfl⟩
abbrev main_call49_v0 : Ref sig .tc := ⟨.hbm, 1007, rfl⟩
abbrev main_call49_v1 : Ref sig .tc := ⟨.hbm, 1008, rfl⟩
abbrev main_call49_v2 : Ref sig .tc := ⟨.hbm, 1009, rfl⟩
abbrev main_call49_v3 : Ref sig .tc := ⟨.hbm, 1010, rfl⟩
abbrev main_call49_v4 : Ref sig .tc := ⟨.hbm, 1011, rfl⟩
abbrev main_v411 : Ref sig .tc := ⟨.hbm, 1012, rfl⟩
abbrev main_v412 : Ref sig .tc := ⟨.hbm, 1013, rfl⟩
abbrev main_v413 : Ref sig .tc := ⟨.hbm, 1014, rfl⟩
abbrev main_call50_c : Ref sig .tc := ⟨.hbm, 1015, rfl⟩
abbrev main_call50_v0 : Ref sig .tc := ⟨.hbm, 1016, rfl⟩
abbrev main_call50_v1 : Ref sig .tc := ⟨.hbm, 1017, rfl⟩
abbrev main_call50_c_0 : Ref sig .tc := ⟨.hbm, 1018, rfl⟩
abbrev main_call50_v2 : Ref sig .tc := ⟨.hbm, 1019, rfl⟩
abbrev main_call50_v3 : Ref sig .tc := ⟨.hbm, 1020, rfl⟩
abbrev main_call50_v4 : Ref sig .tc := ⟨.hbm, 1021, rfl⟩
abbrev main_call50_v5 : Ref sig .tc := ⟨.hbm, 1022, rfl⟩
abbrev main_call50_c_1 : Ref sig .tc := ⟨.hbm, 1023, rfl⟩
abbrev main_call50_c_2 : Ref sig .tc := ⟨.hbm, 1024, rfl⟩
abbrev main_call50_v6 : Ref sig .tc := ⟨.hbm, 1025, rfl⟩
abbrev main_call50_v7 : Ref sig .tc := ⟨.hbm, 1026, rfl⟩
abbrev main_call50_v8 : Ref sig .tc := ⟨.hbm, 1027, rfl⟩
abbrev main_call50_v9 : Ref sig .tc := ⟨.hbm, 1028, rfl⟩
abbrev main_call50_v10 : Ref sig .tc := ⟨.hbm, 1029, rfl⟩
abbrev main_call50_v11 : Ref sig .tc := ⟨.hbm, 1030, rfl⟩
abbrev main_call50_c_3 : Ref sig .tc := ⟨.hbm, 1031, rfl⟩
abbrev main_call50_v12 : Ref sig .tc := ⟨.hbm, 1032, rfl⟩
abbrev main_call50_v13 : Ref sig .tc := ⟨.hbm, 1033, rfl⟩
abbrev main_call50_cst : Ref sig .tc := ⟨.hbm, 1034, rfl⟩
abbrev main_call50_v14 : Ref sig .tc := ⟨.hbm, 1035, rfl⟩
abbrev main_v414 : Ref sig .tc := ⟨.hbm, 1036, rfl⟩
abbrev main_v415 : Ref sig .tc := ⟨.hbm, 1037, rfl⟩
abbrev main_v416 : Ref sig .tc := ⟨.hbm, 1038, rfl⟩
abbrev main_call51_c : Ref sig .tc := ⟨.hbm, 1039, rfl⟩
abbrev main_call51_v0 : Ref sig .tc := ⟨.hbm, 1040, rfl⟩
abbrev main_call51_v1 : Ref sig .tc := ⟨.hbm, 1041, rfl⟩
abbrev main_call51_c_0 : Ref sig .tc := ⟨.hbm, 1042, rfl⟩
abbrev main_call51_v2 : Ref sig .tc := ⟨.hbm, 1043, rfl⟩
abbrev main_call51_v3 : Ref sig .tc := ⟨.hbm, 1044, rfl⟩
abbrev main_call51_v4 : Ref sig .tc := ⟨.hbm, 1045, rfl⟩
abbrev main_call51_v5 : Ref sig .tc := ⟨.hbm, 1046, rfl⟩
abbrev main_call51_c_1 : Ref sig .tc := ⟨.hbm, 1047, rfl⟩
abbrev main_call51_c_2 : Ref sig .tc := ⟨.hbm, 1048, rfl⟩
abbrev main_call51_v6 : Ref sig .tc := ⟨.hbm, 1049, rfl⟩
abbrev main_call51_v7 : Ref sig .tc := ⟨.hbm, 1050, rfl⟩
abbrev main_call51_v8 : Ref sig .tc := ⟨.hbm, 1051, rfl⟩
abbrev main_call51_v9 : Ref sig .tc := ⟨.hbm, 1052, rfl⟩
abbrev main_call51_v10 : Ref sig .tc := ⟨.hbm, 1053, rfl⟩
abbrev main_call51_v11 : Ref sig .tc := ⟨.hbm, 1054, rfl⟩
abbrev main_call51_c_3 : Ref sig .tc := ⟨.hbm, 1055, rfl⟩
abbrev main_call51_v12 : Ref sig .tc := ⟨.hbm, 1056, rfl⟩
abbrev main_call51_v13 : Ref sig .tc := ⟨.hbm, 1057, rfl⟩
abbrev main_call51_cst : Ref sig .tc := ⟨.hbm, 1058, rfl⟩
abbrev main_call51_v14 : Ref sig .tc := ⟨.hbm, 1059, rfl⟩
abbrev main_v417 : Ref sig .tc := ⟨.hbm, 1060, rfl⟩
abbrev main_v418 : Ref sig .tc := ⟨.hbm, 1061, rfl⟩
abbrev main_v419 : Ref sig .tc := ⟨.hbm, 1062, rfl⟩
abbrev main_v420 : Ref sig .tc := ⟨.hbm, 1063, rfl⟩
abbrev main_call52_c : Ref sig .tc := ⟨.hbm, 1064, rfl⟩
abbrev main_call52_v0 : Ref sig .tc := ⟨.hbm, 1065, rfl⟩
abbrev main_call52_v1 : Ref sig .tc := ⟨.hbm, 1066, rfl⟩
abbrev main_call52_c_0 : Ref sig .tc := ⟨.hbm, 1067, rfl⟩
abbrev main_call52_v2 : Ref sig .tc := ⟨.hbm, 1068, rfl⟩
abbrev main_call52_v3 : Ref sig .tc := ⟨.hbm, 1069, rfl⟩
abbrev main_call52_v4 : Ref sig .tc := ⟨.hbm, 1070, rfl⟩
abbrev main_call52_v5 : Ref sig .tc := ⟨.hbm, 1071, rfl⟩
abbrev main_call52_c_1 : Ref sig .tc := ⟨.hbm, 1072, rfl⟩
abbrev main_call52_c_2 : Ref sig .tc := ⟨.hbm, 1073, rfl⟩
abbrev main_call52_v6 : Ref sig .tc := ⟨.hbm, 1074, rfl⟩
abbrev main_call52_v7 : Ref sig .tc := ⟨.hbm, 1075, rfl⟩
abbrev main_call52_v8 : Ref sig .tc := ⟨.hbm, 1076, rfl⟩
abbrev main_call52_v9 : Ref sig .tc := ⟨.hbm, 1077, rfl⟩
abbrev main_call52_v10 : Ref sig .tc := ⟨.hbm, 1078, rfl⟩
abbrev main_call52_v11 : Ref sig .tc := ⟨.hbm, 1079, rfl⟩
abbrev main_call52_c_3 : Ref sig .tc := ⟨.hbm, 1080, rfl⟩
abbrev main_call52_v12 : Ref sig .tc := ⟨.hbm, 1081, rfl⟩
abbrev main_call52_v13 : Ref sig .tc := ⟨.hbm, 1082, rfl⟩
abbrev main_call52_cst : Ref sig .tc := ⟨.hbm, 1083, rfl⟩
abbrev main_call52_v14 : Ref sig .tc := ⟨.hbm, 1084, rfl⟩
abbrev main_v421 : Ref sig .tc := ⟨.hbm, 1085, rfl⟩
abbrev main_v422 : Ref sig .tc := ⟨.hbm, 1086, rfl⟩
abbrev main_v423 : Ref sig .tc := ⟨.hbm, 1087, rfl⟩
abbrev main_call53_c : Ref sig .tc := ⟨.hbm, 1088, rfl⟩
abbrev main_call53_v0 : Ref sig .tc := ⟨.hbm, 1089, rfl⟩
abbrev main_call53_v1 : Ref sig .tc := ⟨.hbm, 1090, rfl⟩
abbrev main_call53_c_0 : Ref sig .tc := ⟨.hbm, 1091, rfl⟩
abbrev main_call53_v2 : Ref sig .tc := ⟨.hbm, 1092, rfl⟩
abbrev main_call53_v3 : Ref sig .tc := ⟨.hbm, 1093, rfl⟩
abbrev main_call53_v4 : Ref sig .tc := ⟨.hbm, 1094, rfl⟩
abbrev main_call53_v5 : Ref sig .tc := ⟨.hbm, 1095, rfl⟩
abbrev main_call53_c_1 : Ref sig .tc := ⟨.hbm, 1096, rfl⟩
abbrev main_call53_c_2 : Ref sig .tc := ⟨.hbm, 1097, rfl⟩
abbrev main_call53_v6 : Ref sig .tc := ⟨.hbm, 1098, rfl⟩
abbrev main_call53_v7 : Ref sig .tc := ⟨.hbm, 1099, rfl⟩
abbrev main_call53_v8 : Ref sig .tc := ⟨.hbm, 1100, rfl⟩
abbrev main_call53_v9 : Ref sig .tc := ⟨.hbm, 1101, rfl⟩
abbrev main_call53_v10 : Ref sig .tc := ⟨.hbm, 1102, rfl⟩
abbrev main_call53_v11 : Ref sig .tc := ⟨.hbm, 1103, rfl⟩
abbrev main_call53_c_3 : Ref sig .tc := ⟨.hbm, 1104, rfl⟩
abbrev main_call53_v12 : Ref sig .tc := ⟨.hbm, 1105, rfl⟩
abbrev main_call53_v13 : Ref sig .tc := ⟨.hbm, 1106, rfl⟩
abbrev main_call53_cst : Ref sig .tc := ⟨.hbm, 1107, rfl⟩
abbrev main_call53_v14 : Ref sig .tc := ⟨.hbm, 1108, rfl⟩
abbrev main_v424 : Ref sig .tc := ⟨.hbm, 1109, rfl⟩
abbrev main_v425 : Ref sig .tc := ⟨.hbm, 1110, rfl⟩
abbrev main_v426 : Ref sig .tc := ⟨.hbm, 1111, rfl⟩
abbrev main_v427 : Ref sig .tc := ⟨.hbm, 1112, rfl⟩
abbrev main_call54_c : Ref sig .tc := ⟨.hbm, 1113, rfl⟩
abbrev main_call54_v0 : Ref sig .tc := ⟨.hbm, 1114, rfl⟩
abbrev main_call54_v1 : Ref sig .tc := ⟨.hbm, 1115, rfl⟩
abbrev main_call54_c_0 : Ref sig .tc := ⟨.hbm, 1116, rfl⟩
abbrev main_call54_v2 : Ref sig .tc := ⟨.hbm, 1117, rfl⟩
abbrev main_call54_v3 : Ref sig .tc := ⟨.hbm, 1118, rfl⟩
abbrev main_call54_v4 : Ref sig .tc := ⟨.hbm, 1119, rfl⟩
abbrev main_call54_v5 : Ref sig .tc := ⟨.hbm, 1120, rfl⟩
abbrev main_call54_c_1 : Ref sig .tc := ⟨.hbm, 1121, rfl⟩
abbrev main_call54_c_2 : Ref sig .tc := ⟨.hbm, 1122, rfl⟩
abbrev main_call54_v6 : Ref sig .tc := ⟨.hbm, 1123, rfl⟩
abbrev main_call54_v7 : Ref sig .tc := ⟨.hbm, 1124, rfl⟩
abbrev main_call54_v8 : Ref sig .tc := ⟨.hbm, 1125, rfl⟩
abbrev main_call54_v9 : Ref sig .tc := ⟨.hbm, 1126, rfl⟩
abbrev main_call54_v10 : Ref sig .tc := ⟨.hbm, 1127, rfl⟩
abbrev main_call54_v11 : Ref sig .tc := ⟨.hbm, 1128, rfl⟩
abbrev main_call54_c_3 : Ref sig .tc := ⟨.hbm, 1129, rfl⟩
abbrev main_call54_v12 : Ref sig .tc := ⟨.hbm, 1130, rfl⟩
abbrev main_call54_v13 : Ref sig .tc := ⟨.hbm, 1131, rfl⟩
abbrev main_call54_cst : Ref sig .tc := ⟨.hbm, 1132, rfl⟩
abbrev main_call54_v14 : Ref sig .tc := ⟨.hbm, 1133, rfl⟩
abbrev main_v428 : Ref sig .tc := ⟨.hbm, 1134, rfl⟩
abbrev main_v429 : Ref sig .tc := ⟨.hbm, 1135, rfl⟩
abbrev main_v430 : Ref sig .tc := ⟨.hbm, 1136, rfl⟩
abbrev main_v431 : Ref sig .tc := ⟨.hbm, 1137, rfl⟩
abbrev main_call55_c : Ref sig .tc := ⟨.hbm, 1138, rfl⟩
abbrev main_call55_v0 : Ref sig .tc := ⟨.hbm, 1139, rfl⟩
abbrev main_call55_v1 : Ref sig .tc := ⟨.hbm, 1140, rfl⟩
abbrev main_call55_c_0 : Ref sig .tc := ⟨.hbm, 1141, rfl⟩
abbrev main_call55_v2 : Ref sig .tc := ⟨.hbm, 1142, rfl⟩
abbrev main_call55_v3 : Ref sig .tc := ⟨.hbm, 1143, rfl⟩
abbrev main_call55_v4 : Ref sig .tc := ⟨.hbm, 1144, rfl⟩
abbrev main_call55_v5 : Ref sig .tc := ⟨.hbm, 1145, rfl⟩
abbrev main_call55_c_1 : Ref sig .tc := ⟨.hbm, 1146, rfl⟩
abbrev main_call55_c_2 : Ref sig .tc := ⟨.hbm, 1147, rfl⟩
abbrev main_call55_v6 : Ref sig .tc := ⟨.hbm, 1148, rfl⟩
abbrev main_call55_v7 : Ref sig .tc := ⟨.hbm, 1149, rfl⟩
abbrev main_call55_v8 : Ref sig .tc := ⟨.hbm, 1150, rfl⟩
abbrev main_call55_v9 : Ref sig .tc := ⟨.hbm, 1151, rfl⟩
abbrev main_call55_v10 : Ref sig .tc := ⟨.hbm, 1152, rfl⟩
abbrev main_call55_v11 : Ref sig .tc := ⟨.hbm, 1153, rfl⟩
abbrev main_call55_c_3 : Ref sig .tc := ⟨.hbm, 1154, rfl⟩
abbrev main_call55_v12 : Ref sig .tc := ⟨.hbm, 1155, rfl⟩
abbrev main_call55_v13 : Ref sig .tc := ⟨.hbm, 1156, rfl⟩
abbrev main_call55_cst : Ref sig .tc := ⟨.hbm, 1157, rfl⟩
abbrev main_call55_v14 : Ref sig .tc := ⟨.hbm, 1158, rfl⟩
abbrev main_v432 : Ref sig .tc := ⟨.hbm, 1159, rfl⟩
abbrev main_v433 : Ref sig .tc := ⟨.hbm, 1160, rfl⟩
abbrev main_v434 : Ref sig .tc := ⟨.hbm, 1161, rfl⟩
abbrev main_v435 : Ref sig .tc := ⟨.hbm, 1162, rfl⟩
abbrev main_cst_96 : Ref sig .tc := ⟨.hbm, 1163, rfl⟩
abbrev main_cst_97 : Ref sig .tc := ⟨.hbm, 1164, rfl⟩
abbrev main_call56_v0 : Ref sig .tc := ⟨.hbm, 1165, rfl⟩
abbrev main_call56_v1 : Ref sig .tc := ⟨.hbm, 1166, rfl⟩
abbrev main_call56_v2 : Ref sig .tc := ⟨.hbm, 1167, rfl⟩
abbrev main_call56_v3 : Ref sig .tc := ⟨.hbm, 1168, rfl⟩
abbrev main_call56_v4 : Ref sig .tc := ⟨.hbm, 1169, rfl⟩
abbrev main_v436 : Ref sig .tc := ⟨.hbm, 1170, rfl⟩
abbrev main_v437 : Ref sig .tc := ⟨.hbm, 1171, rfl⟩
abbrev main_cst_98 : Ref sig .tc := ⟨.hbm, 1172, rfl⟩
abbrev main_v438 : Ref sig .tc := ⟨.hbm, 1173, rfl⟩
abbrev main_v439 : Ref sig .tc := ⟨.hbm, 1174, rfl⟩
abbrev main_v440 : Ref sig .tc := ⟨.hbm, 1175, rfl⟩
abbrev main_v441 : Ref sig .tc := ⟨.hbm, 1176, rfl⟩
abbrev main_v442 : Ref sig .tc := ⟨.hbm, 1177, rfl⟩
abbrev main_v443 : Ref sig .tc := ⟨.hbm, 1178, rfl⟩
abbrev main_v444 : Ref sig .tc := ⟨.hbm, 1179, rfl⟩
abbrev main_v445 : Ref sig .tc := ⟨.hbm, 1180, rfl⟩
abbrev main_v446 : Ref sig .tc := ⟨.hbm, 1181, rfl⟩
abbrev main_cst_99 : Ref sig .tc := ⟨.hbm, 1182, rfl⟩
abbrev main_v447 : Ref sig .tc := ⟨.hbm, 1183, rfl⟩
abbrev main_v448 : Ref sig .tc := ⟨.hbm, 1184, rfl⟩
abbrev main_v449 : Ref sig .tc := ⟨.hbm, 1185, rfl⟩
abbrev main_v450 : Ref sig .tc := ⟨.hbm, 1186, rfl⟩
abbrev main_v451 : Ref sig .tc := ⟨.hbm, 1187, rfl⟩
abbrev main_v452 : Ref sig .tc := ⟨.hbm, 1188, rfl⟩
abbrev main_v453 : Ref sig .tc := ⟨.hbm, 1189, rfl⟩
abbrev main_cst_100 : Ref sig .tc := ⟨.hbm, 1190, rfl⟩
abbrev main_v454 : Ref sig .tc := ⟨.hbm, 1191, rfl⟩
abbrev main_v455 : Ref sig .tc := ⟨.hbm, 1192, rfl⟩
abbrev main_cst_101 : Ref sig .tc := ⟨.hbm, 1193, rfl⟩
abbrev main_v456 : Ref sig .tc := ⟨.hbm, 1194, rfl⟩
abbrev main_v457 : Ref sig .tc := ⟨.hbm, 1195, rfl⟩
abbrev main_v458 : Ref sig .tc := ⟨.hbm, 1196, rfl⟩
abbrev main_v459 : Ref sig .tc := ⟨.hbm, 1197, rfl⟩
abbrev main_v460 : Ref sig .tc := ⟨.hbm, 1198, rfl⟩
abbrev main_v461 : Ref sig .tc := ⟨.hbm, 1199, rfl⟩
abbrev main_v462 : Ref sig .tc := ⟨.hbm, 1200, rfl⟩
abbrev main_v463 : Ref sig .tc := ⟨.hbm, 1201, rfl⟩
abbrev main_v464 : Ref sig .tc := ⟨.hbm, 1202, rfl⟩
abbrev main_v465 : Ref sig .tc := ⟨.hbm, 1203, rfl⟩
abbrev main_cst_102 : Ref sig .tc := ⟨.hbm, 1204, rfl⟩
abbrev main_v466 : Ref sig .tc := ⟨.hbm, 1205, rfl⟩
abbrev main_v467 : Ref sig .tc := ⟨.hbm, 1206, rfl⟩
abbrev main_cst_103 : Ref sig .tc := ⟨.hbm, 1207, rfl⟩
abbrev main_v468 : Ref sig .tc := ⟨.hbm, 1208, rfl⟩
abbrev main_v469 : Ref sig .tc := ⟨.hbm, 1209, rfl⟩
abbrev main_cst_104 : Ref sig .tc := ⟨.hbm, 1210, rfl⟩
abbrev main_v470 : Ref sig .tc := ⟨.hbm, 1211, rfl⟩
abbrev main_v471 : Ref sig .tc := ⟨.hbm, 1212, rfl⟩
abbrev main_v472 : Ref sig .tc := ⟨.hbm, 1213, rfl⟩
abbrev main_cst_105 : Ref sig .tc := ⟨.hbm, 1214, rfl⟩
abbrev main_v473 : Ref sig .tc := ⟨.hbm, 1215, rfl⟩
abbrev main_v474 : Ref sig .tc := ⟨.hbm, 1216, rfl⟩
abbrev main_v475 : Ref sig .tc := ⟨.hbm, 1217, rfl⟩
abbrev main_cst_106 : Ref sig .tc := ⟨.hbm, 1218, rfl⟩
abbrev main_v476 : Ref sig .tc := ⟨.hbm, 1219, rfl⟩
abbrev main_v477 : Ref sig .tc := ⟨.hbm, 1220, rfl⟩
abbrev main_cst_107 : Ref sig .tc := ⟨.hbm, 1221, rfl⟩
abbrev main_v478 : Ref sig .tc := ⟨.hbm, 1222, rfl⟩
abbrev main_v479 : Ref sig .tc := ⟨.hbm, 1223, rfl⟩
abbrev main_v480 : Ref sig .tc := ⟨.hbm, 1224, rfl⟩
abbrev main_cst_108 : Ref sig .tc := ⟨.hbm, 1225, rfl⟩
abbrev main_v481 : Ref sig .tc := ⟨.hbm, 1226, rfl⟩
abbrev main_v482 : Ref sig .tc := ⟨.hbm, 1227, rfl⟩
abbrev main_v483 : Ref sig .tc := ⟨.hbm, 1228, rfl⟩
abbrev main_v484 : Ref sig .tc := ⟨.hbm, 1229, rfl⟩
abbrev main_v485 : Ref sig .tc := ⟨.hbm, 1230, rfl⟩
abbrev main_cst_109 : Ref sig .tc := ⟨.hbm, 1231, rfl⟩
abbrev main_v486 : Ref sig .tc := ⟨.hbm, 1232, rfl⟩
abbrev main_v487 : Ref sig .tc := ⟨.hbm, 1233, rfl⟩

abbrev nD : Nat := 1
abbrev τ : Topo := Topo.v7x

variable {F : FTy → Type} [FloatOps F]
-- ==== Proof.Knots.lean ====
/-
  The scalar mathematics of one spline step: bin sizes from positive weights, the knots they add up to, the bin that holds a point, and the
  rational quadratic inside that bin.
-/
module

public import Idealize.ShloMosaic.PureOps.Ideal
public import Idealize.ShloMosaic.PureOps.Ideal.Laws
public import Idealize.ShloMosaic.Lib.Pointwise

@[expose] public section

set_option maxRecDepth 16384

noncomputable section

namespace Cert.Spline

open Idealize.ShloMosaic

/-- What the bins share out between them: the interval's length less 32 least bin sizes. -/
def cSize : ℝ := 12582241 / 2097152
/-- The least size of a bin. -/
def cMin : ℝ := 10995116 / 1099511627776

theorem cSize_pos : 0 < cSize := by norm_num [cSize]
theorem cMin_pos : 0 < cMin := by norm_num [cMin]

theorem bits_size : Ideal.ofBits .f32 0x40BFFD61#32 = (cSize : EReal) := by
  simp [Ideal.ofBits, Ideal.ieee, -EReal.coe_mul, cSize]; norm_num
theorem bits_min : Ideal.ofBits .f32 0x3727C5AC#32 = (cMin : EReal) := by
  simp [Ideal.ofBits, Ideal.ieee, -EReal.coe_mul, cMin]; norm_num
theorem bits_lo : Ideal.ofBits .f32 0xC0400000#32 = ((-3 : ℝ) : EReal) := by
  simp [Ideal.ofBits, Ideal.ieee, -EReal.coe_mul]; norm_num
theorem bits_hi : Ideal.ofBits .f32 0x40400000#32 = ((3 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_eighty : Ideal.ofBits .f32 0x42A00000#32 = ((80 : ℝ) : EReal) := by
  simp [Ideal.ofBits, Ideal.ieee, -EReal.coe_mul]; norm_num
theorem bits_bot : Ideal.ofBits .f32 0xFF800000#32 = (⊥ : EReal) := by
  simp [Ideal.ofBits, Ideal.ieee]

/-- A sum of reals, read among the extended reals. -/
theorem coe_sum {n : ℕ} (f : Fin n → ℝ) : ((∑ k, f k : ℝ) : EReal) = ∑ k, (f k : EReal) :=
  map_sum (⟨⟨Real.toEReal, rfl⟩, EReal.coe_add⟩ : ℝ →+ EReal) f Finset.univ

/-- The size of bin `k` for the weights `e`. -/
def bin (e : Fin 32 → ℝ) (k : Fin 32) : ℝ := cSize / (∑ j, e j) * e k + cMin

/-- The sum of the weights before the place `k`. -/
def before (e : Fin 32 → ℝ) (k : ℕ) : ℝ := ∑ j : Fin 32, if j.val < k then e j else 0

/-- Knot `k` for the weights `e`, from the running sum of the weights. -/
def edge (e : Fin 32 → ℝ) (k : ℕ) : ℝ := (-3 + cMin * k) + cSize / (∑ j, e j) * before e k

/-- The first knot is the left end of the interval. -/
theorem edge_zero (e : Fin 32 → ℝ) : edge e 0 = -3 := by
  simp [edge, before]

/-- One more place adds its weight to the running sum. -/
theorem before_succ (e : Fin 32 → ℝ) (k : Fin 32) : before e (k.val + 1) = before e k.val + e k := by
  have h : ∀ j : Fin 32, (if j.val < k.val + 1 then e j else 0) = (if j.val < k.val then e j else 0) + (if j = k then e j else 0) := by
    intro j
    by_cases hj : j = k
    · subst hj; simp
    · have : j.val ≠ k.val := fun h => hj (Fin.ext h)
      have h2 : (j.val < k.val + 1) ↔ (j.val < k.val) := by omega
      simp [hj, h2]
  simp only [before, h, Finset.sum_add_distrib]
  simp

/-- A knot is the one before it and the bin between them. -/
theorem edge_succ (e : Fin 32 → ℝ) (k : Fin 32) : edge e (k.val + 1) = edge e k.val + bin e k := by
  simp only [edge, before_succ, bin]; push_cast; ring

theorem bin_pos (e : Fin 32 → ℝ) (he : ∀ k, 0 < e k) (k : Fin 32) : 0 < bin e k := by
  have hs : 0 < ∑ j, e j := Finset.sum_pos (fun j _ => he j) ⟨0, Finset.mem_univ _⟩
  have := cSize_pos
  have := cMin_pos
  have := he k
  unfold bin
  positivity

/-- The knots increase. -/
theorem edge_mono (e : Fin 32 → ℝ) (he : ∀ k, 0 < e k) : ∀ a b : ℕ, a ≤ b → b ≤ 32 → edge e a ≤ edge e b := by
  intro a b hab
  induction b, hab using Nat.le_induction with
  | base => intro _; exact le_rfl
  | succ n hn ih =>
    intro hb
    have h := edge_succ e ⟨n, by omega⟩
    have hp := bin_pos e he ⟨n, by omega⟩
    have := ih (by omega)
    simp only at h
    rw [h]; linarith

/-- A knot is the left end and the bins before it. -/
theorem edge_eq_sum (e : Fin 32 → ℝ) : ∀ k : ℕ, k ≤ 32 → edge e k = -3 + ∑ j : Fin 32, if j.val < k then bin e j else 0 := by
  intro k
  induction k with
  | zero => intro _; simp [edge_zero]
  | succ n ih =>
    intro hn
    have h := edge_succ e ⟨n, by omega⟩
    have hb := before_succ (bin e) ⟨n, by omega⟩
    simp only [before] at h hb
    rw [h, ih (by omega), hb]; ring

/-- `K` is the bin that holds `x`: the last of the 32 whose left knot is not above `x`. -/
def IsBin (e : Fin 32 → ℝ) (x : EReal) (K : Fin 32) : Prop := ∀ k : Fin 32, ((edge e k.val : ℝ) : EReal) ≤ x ↔ k ≤ K

/-- A point not left of the interval has a bin. -/
theorem exists_isBin (e : Fin 32 → ℝ) (he : ∀ k, 0 < e k) (x : EReal) (hx : ¬ x < ((-3 : ℝ) : EReal)) : ∃ K, IsBin e x K := by
  classical
  have h0 : ((edge e (0 : Fin 32).val : ℝ) : EReal) ≤ x := by
    have : edge e (0 : Fin 32).val = -3 := edge_zero e
    rw [this]; exact not_lt.mp hx
  let S := Finset.univ.filter fun k : Fin 32 => ((edge e k.val : ℝ) : EReal) ≤ x
  have hS : S.Nonempty := ⟨0, by simpa [S] using h0⟩
  refine ⟨S.max' hS, fun k => ⟨fun hk => S.le_max' k (by simpa [S] using hk), fun hk => ?_⟩⟩
  have hm : ((edge e (S.max' hS).val : ℝ) : EReal) ≤ x := by
    have := S.max'_mem hS
    simpa [S] using this
  exact le_trans (EReal.coe_le_coe_iff.mpr (edge_mono e he _ _ hk (by omega))) hm

/-- Scaling every weight by one number leaves the bins as they are. -/
theorem bin_scale (e : Fin 32 → ℝ) (c : ℝ) (hc : c ≠ 0) : bin (fun k => e k * c) = bin e := by
  funext k
  simp only [bin, ← Finset.sum_mul]
  rcases eq_or_ne (∑ j, e j) 0 with h | h
  · simp [h]
  · field_simp

/-- Scaling every weight by one number leaves the knots as they are. -/
theorem edge_scale (e : Fin 32 → ℝ) (c : ℝ) (hc : c ≠ 0) (k : ℕ) (hk : k ≤ 32) : edge (fun k => e k * c) k = edge e k := by
  rw [edge_eq_sum _ k hk, edge_eq_sum _ k hk, bin_scale e c hc]

/-- The smooth positive part of `v`, and the least slope. -/
def slope (u : EReal) : EReal :=
  max (u + Ideal.ofBits .f32 0x3F0A933B#32) 0
    + Ideal.log (1 + Ideal.exp (-(max (u + Ideal.ofBits .f32 0x3F0A933B#32) (-(u + Ideal.ofBits .f32 0x3F0A933B#32))))) + (cMin : EReal)

/-- Where `x` stands in its bin, cut to the unit interval. -/
def place (x xk wk : EReal) : EReal := min 1 (max 0 (Ideal.div (x - xk) wk))

/-- The rational quadratic of one bin at the place `z`, for the bin's rise over its run `s`. -/
def quad (yk hk dk dk1 s z : EReal) : EReal :=
  yk + Ideal.div (hk * (s * z * z + dk * (z * (1 - z)))) (s + (dk1 + dk - ((2 : ℝ) : EReal) * s) * (z * (1 - z)))

/-- The spline inside bin `K`, for the weights of the two axes and the raw slopes. -/
def inside (x : EReal) (ew eh : Fin 32 → ℝ) (ud : Fin 33 → EReal) (K : Fin 32) : EReal :=
  quad (edge eh K.val : ℝ) (bin eh K : ℝ) (slope (ud K.castSucc)) (slope (ud K.succ)) (Ideal.div (bin eh K : ℝ) (bin ew K : ℝ))
    (place x (edge ew K.val : ℝ) (bin ew K : ℝ))

/-- A choice on either of two conditions. -/
theorem select_or {α : Type} (P Q : Prop) [Decidable P] [Decidable Q] (a b : α) :
    Scalar.select (IntOp.ori (BitVec.ofBool (decide P)) (BitVec.ofBool (decide Q))) a b = if P ∨ Q then a else b := by
  by_cases h1 : P <;> by_cases h2 : Q <;> simp [h1, h2, IntOp.ori, Scalar.select]

end Cert.Spline

end
-- ==== Proof.KernelStep.lean ====
/-
  One spline step as the kernel computes it on a block of 4096 lanes, and what it leaves at one lane.
-/
module

public import proofs.«01_k».proof.Proof.Knots
public import proofs.«01_k».proof.Proof.Gen.KernelIdeal.Skeleton

@[expose] public section

set_option maxRecDepth 16384

noncomputable section

namespace Cert.KernelStep

open Cert.KernelIdeal Cert.KernelIdeal.Gen Idealize.ShloMosaic Idealize.ShloMosaic.TcCoe

/-- The running sums of the width weights, and the two totals, as one product with a matrix of zeros and ones. -/
def sums (ew eh : FVec Ideal S32x4096 .f32) : FVec Ideal S40x4096 .f32 :=
  k0_pay12 ew eh (iota .tc S40x1 32 [0] iota_S40x1_d0_w32) (iota .tc S1x64 32 [1] iota_S1x64_d1_w32) k0_pay10 k0_pay11

/-- The sums over groups of 32 rows, as one product with a matrix of zeros and ones. -/
def picks (v2 : FVec Ideal S224x4096 .f32) : FVec Ideal S56x4096 .f32 :=
  k0_pay23 v2 (iota .tc S56x1 32 [0] iota_S56x1_d0_w32) k0_pay19 k0_pay20 k0_pay21 k0_pay22 0#32

/-- What one unit of width weight is worth. -/
def rateW (ew eh : FVec Ideal S32x4096 .f32) : FVec Ideal S1x4096 .f32 :=
  k0_pay13 ew eh (iota .tc S40x1 32 [0] iota_S40x1_d0_w32) (iota .tc S1x64 32 [1] iota_S1x64_d1_w32) k0_pay10 k0_pay11

/-- What one unit of height weight is worth. -/
def rateH (ew eh : FVec Ideal S32x4096 .f32) : FVec Ideal S1x4096 .f32 :=
  k0_pay14 ew eh (iota .tc S40x1 32 [0] iota_S40x1_d0_w32) (iota .tc S1x64 32 [1] iota_S1x64_d1_w32) k0_pay10 k0_pay11

/-- One where the left knot of a bin is not above `x`, zero elsewhere. -/
def upTo (x : FVec Ideal S1x4096 .f32) (ew eh : FVec Ideal S32x4096 .f32) : FVec Ideal S32x4096 .f32 :=
  k0_pay15 x ew eh (iota .tc S40x1 32 [0] iota_S40x1_d0_w32) (iota .tc S1x64 32 [1] iota_S1x64_d1_w32) k0_pay10 k0_pay11

/-- The seven groups of 32 rows: weights at the bin, weights below it, raw slopes at its two ends, and the count. -/
def groups (ew eh : FVec Ideal S32x4096 .f32) (ud : FVec Ideal S33x4096 .f32) (c cs : FVec Ideal S32x4096 .f32) : FVec Ideal S224x4096 .f32 :=
  k0_pay18 ew eh ud cs (subf c cs)

/-- The same marks one row up. -/
def below (c : FVec Ideal S32x4096 .f32) : FVec Ideal S32x4096 .f32 :=
  concatenate S32x4096 0 [⟨S31x4096, extractStridedSlice S31x4096 ![1, 0] c slices_S32x4096_o1_0_S31x4096⟩,
    ⟨S1x4096, broadcast S1x4096 (Scalar.ofBits .f32 0x00000000#32)⟩] concatenates_S31x4096_S1x4096_S32x4096_d0

/-- The size of the bin, of a rate and the row of sums that holds the bin's weight. -/
def binSize (rate row : FVec Ideal S1x4096 .f32) : FVec Ideal S1x4096 .f32 :=
  addf (mulf rate row) (broadcast S1x4096 (Scalar.ofBits .f32 0x3727C5AC#32))

/-- The rational quadratic, from the rates and the picked rows. -/
def tail (x rw rh : FVec Ideal S1x4096 .f32) (r2 : FVec Ideal S56x4096 .f32) : FVec Ideal S1x4096 .f32 :=
  k0_pay34 x (binSize rh (extractStridedSlice S1x4096 ![8, 0] r2 slices_S56x4096_o8_0_S1x4096))
    (k0_pay29 rh r2 (extractStridedSlice S1x4096 ![48, 0] r2 slices_S56x4096_o48_0_S1x4096) k0_pay27) (k0_pay30 r2) (k0_pay31 r2)
    (k0_pay32 x rw r2 (binSize rw (extractStridedSlice S1x4096 ![0, 0] r2 slices_S56x4096_o0_0_S1x4096))
      (extractStridedSlice S1x4096 ![48, 0] r2 slices_S56x4096_o48_0_S1x4096) k0_pay27)
    (k0_pay33 (binSize rw (extractStridedSlice S1x4096 ![0, 0] r2 slices_S56x4096_o0_0_S1x4096))
      (binSize rh (extractStridedSlice S1x4096 ![8, 0] r2 slices_S56x4096_o8_0_S1x4096)))
    (Scalar.ofBits .f32 0x3F800000#32)

/-- One spline step of the kernel: `x` through the spline that the 97 rows of `p` describe. -/
def kStep (x : FVec Ideal S1x4096 .f32) (p : FVec Ideal S97x4096 .f32) : FVec Ideal S1x4096 .f32 :=
  tail x (rateW (k0_pay92 p) (k0_pay93 p)) (rateH (k0_pay92 p) (k0_pay93 p))
    (picks (groups (k0_pay92 p) (k0_pay93 p) (k0_pay94 p) (upTo x (k0_pay92 p) (k0_pay93 p)) (below (upTo x (k0_pay92 p) (k0_pay93 p)))))

/-- A word that is one or zero, as a number. -/
theorem sitofp_bit (P : Prop) [Decidable P] : (FloatOps.sitofp (F := Ideal) FTy.f32 (if P then 1#32 else 0#32) : EReal) = if P then 1 else 0 := by
  split <;> simp [FloatOps.sitofp]

/-- A product with a zero-one factor. -/
theorem mask_mul (P : Prop) [Decidable P] (a : ℝ) : (if P then 1 else 0 : EReal) * (a : EReal) = (((if P then a else 0) : ℝ) : EReal) := by
  split <;> simp

/-- Row `k` of the sums is the sum of the width weights before `k`. -/
theorem sums_before (ew eh : FVec Ideal S32x4096 .f32) (l : Fin 4096) (e h : Fin 32 → ℝ) (he : ∀ k : Fin 32, ew (ix2 k l) = (e k : EReal))
    (hh : ∀ k : Fin 32, eh (ix2 k l) = (h k : EReal)) (r : Fin 32) :
    sums ew eh (ix2 (⟨r.val, by omega⟩ : Fin 40) l) = (Spline.before e r.val : EReal) := by
  pointwise [sums, k0_pay12, k0_pay10, k0_pay11]
  have hA : (∑ k : Fin 32, (((if k.val < r.val then e k else 0) : ℝ) : EReal)) + (∑ k : Fin 32, (((if False then h k else 0) : ℝ) : EReal))
      = (Spline.before e r.val : EReal) := by
    simp [Spline.before, Spline.coe_sum]
  refine Eq.trans (congrArg₂ (· + ·) (Finset.sum_congr rfl fun k _ => ?_) (Finset.sum_congr rfl fun k _ => ?_)) hA
  · rw [he, ← mask_mul, ← sitofp_bit]
    refine congrArg (fun b : BitVec 32 => (FloatOps.sitofp (F := Ideal) FTy.f32 b : EReal) * (e k : EReal)) ?_
    clear hA he hh
    revert k r; decide +kernel
  · rw [hh, ← mask_mul, ← sitofp_bit]
    refine congrArg (fun b : BitVec 32 => (FloatOps.sitofp (F := Ideal) FTy.f32 b : EReal) * (h k : EReal)) ?_
    clear hA he hh
    revert k r; decide +kernel

/-- Row 32 of the sums is the total of the width weights. -/
theorem sums_w (ew eh : FVec Ideal S32x4096 .f32) (l : Fin 4096) (e h : Fin 32 → ℝ) (he : ∀ k : Fin 32, ew (ix2 k l) = (e k : EReal))
    (hh : ∀ k : Fin 32, eh (ix2 k l) = (h k : EReal)) :
    sums ew eh (ix2 (32 : Fin 40) l) = ((∑ k, e k : ℝ) : EReal) := by
  pointwise [sums, k0_pay12, k0_pay10, k0_pay11]
  have hA : (∑ k : Fin 32, (((if True then e k else 0) : ℝ) : EReal)) + (∑ k : Fin 32, (((if False then h k else 0) : ℝ) : EReal))
      = ((∑ k, e k : ℝ) : EReal) := by
    simp [Spline.coe_sum]
  refine Eq.trans (congrArg₂ (· + ·) (Finset.sum_congr rfl fun k _ => ?_) (Finset.sum_congr rfl fun k _ => ?_)) hA
  · rw [he, ← mask_mul, ← sitofp_bit]
    refine congrArg (fun b : BitVec 32 => (FloatOps.sitofp (F := Ideal) FTy.f32 b : EReal) * (e k : EReal)) ?_
    clear hA he hh
    revert k; decide +kernel
  · rw [hh, ← mask_mul, ← sitofp_bit]
    refine congrArg (fun b : BitVec 32 => (FloatOps.sitofp (F := Ideal) FTy.f32 b : EReal) * (h k : EReal)) ?_
    clear hA he hh
    revert k; decide +kernel

/-- Row 33 of the sums is the total of the height weights. -/
theorem sums_h (ew eh : FVec Ideal S32x4096 .f32) (l : Fin 4096) (e h : Fin 32 → ℝ) (he : ∀ k : Fin 32, ew (ix2 k l) = (e k : EReal))
    (hh : ∀ k : Fin 32, eh (ix2 k l) = (h k : EReal)) :
    sums ew eh (ix2 (33 : Fin 40) l) = ((∑ k, h k : ℝ) : EReal) := by
  pointwise [sums, k0_pay12, k0_pay10, k0_pay11]
  have hA : (∑ k : Fin 32, (((if False then e k else 0) : ℝ) : EReal)) + (∑ k : Fin 32, (((if True then h k else 0) : ℝ) : EReal))
      = ((∑ k, h k : ℝ) : EReal) := by
    simp [Spline.coe_sum]
  refine Eq.trans (congrArg₂ (· + ·) (Finset.sum_congr rfl fun k _ => ?_) (Finset.sum_congr rfl fun k _ => ?_)) hA
  · rw [he, ← mask_mul, ← sitofp_bit]
    refine congrArg (fun b : BitVec 32 => (FloatOps.sitofp (F := Ideal) FTy.f32 b : EReal) * (e k : EReal)) ?_
    clear hA he hh
    revert k; decide +kernel
  · rw [hh, ← mask_mul, ← sitofp_bit]
    refine congrArg (fun b : BitVec 32 => (FloatOps.sitofp (F := Ideal) FTy.f32 b : EReal) * (h k : EReal)) ?_
    clear hA he hh
    revert k; decide +kernel

/-- The sum over 224 places marked by the group they lie in is the sum over that group. -/
theorem sum_group (f : Fin 224 → EReal) (q : Fin 7) :
    (∑ x : Fin 224, (if x.val / 32 = q.val then 1 else 0 : EReal) * f x) = ∑ k : Fin 32, f ⟨32 * q.val + k.val, by omega⟩ := by
  rw [← (finProdFinEquiv (m := 7) (n := 32)).sum_comp, Fintype.sum_prod_type, Finset.sum_eq_single q]
  · refine Finset.sum_congr rfl fun k _ => ?_
    have hx : (finProdFinEquiv (q, k)).val = k.val + 32 * q.val := rfl
    rw [if_pos (by rw [hx]; omega), one_mul]
    exact congrArg f (Fin.ext (by rw [hx]; simp only; omega))
  · intro p _ hp
    refine Finset.sum_eq_zero fun k _ => ?_
    have hx : (finProdFinEquiv (p, k)).val = k.val + 32 * p.val := rfl
    have : p.val ≠ q.val := fun h => hp (Fin.ext h)
    rw [if_neg (by rw [hx]; omega), zero_mul]
  · intro h; exact absurd (Finset.mem_univ _) h

/-- Row `8 q` of the picks is the sum over group `q`. -/
theorem picks_apply (v2 : FVec Ideal S224x4096 .f32) (q : Fin 7) (l : Fin 4096) :
    picks v2 (ix2 (⟨8 * q.val, by omega⟩ : Fin 56) l) = ∑ k : Fin 32, v2 (ix2 (⟨32 * q.val + k.val, by omega⟩ : Fin 224) l) := by
  pointwise [picks, k0_pay23, k0_pay19, k0_pay20, k0_pay21, k0_pay22]
  rw [← sum_group (fun x => v2 (ix2 x l)) q]
  refine Finset.sum_congr rfl fun x _ => ?_
  rw [← sitofp_bit]
  refine congrArg (fun b : BitVec 32 => (FloatOps.sitofp (F := Ideal) FTy.f32 b : EReal) * v2 (ix2 x l)) ?_
  revert x q; decide +kernel

/-- What group `q` holds at its place `k`, for the weights, the raw slopes and the marks. -/
def groupAt (e h : EReal) (u u' c cs : EReal) (q : Fin 7) : EReal :=
  match q with
  | 0 => e * (c - cs)
  | 1 => h * (c - cs)
  | 2 => e * cs
  | 3 => h * cs
  | 4 => u * (c - cs)
  | 5 => u' * (c - cs)
  | 6 => cs

/-- What stands at place `k` of group `q`. -/
theorem groups_apply (ew eh : FVec Ideal S32x4096 .f32) (ud : FVec Ideal S33x4096 .f32) (c cs : FVec Ideal S32x4096 .f32) (q : Fin 7) (k : Fin 32)
    (l : Fin 4096) (r : Fin 224) (hr : r.val = 32 * q.val + k.val) : groups ew eh ud c cs (ix2 r l)
      = groupAt (ew (ix2 k l)) (eh (ix2 k l)) (ud (ix2 k.castSucc l)) (ud (ix2 k.succ l)) (c (ix2 k l)) (cs (ix2 k l)) q := by
  have hk := k.isLt
  have e1 : ∀ h : 1 + k.val < 33, (⟨1 + k.val, h⟩ : Fin 33) = k.succ := fun h => Fin.ext (by simp; omega)
  pointwise [groups, k0_pay18]
  match q, hr with
  | 0, hr =>
    simp only [show r.val = k.val by simpa using hr, hk, dite_true]
    rfl
  | 1, hr =>
    have h : r.val = 32 + k.val := by simpa using hr
    rw [dif_neg (by omega), dif_pos (by omega)]
    simp only [show r.val - 32 = k.val by omega]
    rfl
  | 2, hr =>
    have h : r.val = 64 + k.val := by simpa using hr
    rw [dif_neg (by omega), dif_neg (by omega), dif_pos (by omega)]
    simp only [show r.val - 32 - 32 = k.val by omega]
    rfl
  | 3, hr =>
    have h : r.val = 96 + k.val := by simpa using hr
    rw [dif_neg (by omega), dif_neg (by omega), dif_neg (by omega), dif_pos (by omega)]
    simp only [show r.val - 32 - 32 - 32 = k.val by omega]
    rfl
  | 4, hr =>
    have h : r.val = 128 + k.val := by simpa using hr
    rw [dif_neg (by omega), dif_neg (by omega), dif_neg (by omega), dif_neg (by omega), dif_pos (by omega)]
    simp only [show r.val - 32 - 32 - 32 - 32 = k.val by omega]
    rfl
  | 5, hr =>
    have h : r.val = 160 + k.val := by simpa using hr
    rw [dif_neg (by omega), dif_neg (by omega), dif_neg (by omega), dif_neg (by omega), dif_neg (by omega), dif_pos (by omega)]
    simp only [show r.val - 32 - 32 - 32 - 32 - 32 = k.val by omega, e1]
    rfl
  | 6, hr =>
    have h : r.val = 192 + k.val := by simpa using hr
    rw [dif_neg (by omega), dif_neg (by omega), dif_neg (by omega), dif_neg (by omega), dif_neg (by omega), dif_neg (by omega)]
    simp only [show r.val - 32 - 32 - 32 - 32 - 32 - 32 = k.val by omega]
    rfl

end Cert.KernelStep

end
-- ==== Proof.KernelLane.lean ====
/-
  One lane of the kernel's spline step, read to the end: the point itself outside the interval, the rational quadratic of its bin inside.
-/
module

public import proofs.«01_k».proof.Proof.KernelStep

@[expose] public section

set_option maxRecDepth 16384

noncomputable section

namespace Cert.KernelStep

open Cert.KernelIdeal Cert.KernelIdeal.Gen Idealize.ShloMosaic Idealize.ShloMosaic.TcCoe

variable (ew eh : FVec Ideal S32x4096 .f32) (l : Fin 4096) (e h : Fin 32 → ℝ)

/-- The width rate at a lane. -/
theorem rateW_apply (he : ∀ k : Fin 32, ew (ix2 k l) = (e k : EReal)) (hh : ∀ k : Fin 32, eh (ix2 k l) = (h k : EReal)) (hs : ∑ k, e k ≠ 0) :
    rateW ew eh (ix2 0 l) = ((Spline.cSize / ∑ k, e k : ℝ) : EReal) := by
  have hS := sums_w ew eh l e h he hh
  unfold sums at hS
  pointwise [rateW, k0_pay13]
  rw [hS, Spline.bits_size, Ideal.div_coe hs, ← EReal.coe_mul, mul_one_div]

/-- The height rate at a lane. -/
theorem rateH_apply (he : ∀ k : Fin 32, ew (ix2 k l) = (e k : EReal)) (hh : ∀ k : Fin 32, eh (ix2 k l) = (h k : EReal)) (hs : ∑ k, h k ≠ 0) :
    rateH ew eh (ix2 0 l) = ((Spline.cSize / ∑ k, h k : ℝ) : EReal) := by
  have hS := sums_h ew eh l e h he hh
  unfold sums at hS
  pointwise [rateH, k0_pay14]
  rw [hS, Spline.bits_size, Ideal.div_coe hs, ← EReal.coe_mul, mul_one_div]

/-- The marks at a lane: one up to the bin of `x`, zero above it. -/
theorem upTo_apply (he : ∀ k : Fin 32, ew (ix2 k l) = (e k : EReal)) (hh : ∀ k : Fin 32, eh (ix2 k l) = (h k : EReal)) (hs : ∑ k, e k ≠ 0)
    (x : FVec Ideal S1x4096 .f32) (K : Fin 32) (hK : Spline.IsBin e (x (ix2 0 l)) K) (k : Fin 32) :
    upTo x ew eh (ix2 k l) = if k ≤ K then 1 else 0 := by
  have hR := rateW_apply ew eh l e h he hh hs
  have hB := sums_before ew eh l e h he hh k
  unfold rateW at hR
  unfold sums at hB
  have hcast : (FloatOps.sitofp (F := Ideal) FTy.f32 (BitVec.ofNat 32 k.val) : EReal) = ((k.val : ℝ) : EReal) := by
    have h1 : (BitVec.ofNat 32 k.val).toInt = (k.val : ℤ) := by
      clear hB
      revert k; decide +kernel
    show (((BitVec.ofNat 32 k.val).toInt : ℝ) : EReal) = _
    rw [h1]; simp
  have hA : ((-3 : ℝ) : EReal) + (Spline.cMin : EReal) * ((k.val : ℝ) : EReal)
      + ((Spline.cSize / ∑ k, e k : ℝ) : EReal) * (Spline.before e k.val : EReal) = (Spline.edge e k.val : EReal) := by
    rw [← EReal.coe_mul, ← EReal.coe_mul, ← EReal.coe_add, ← EReal.coe_add]; rfl
  pointwise [upTo, k0_pay15]
  rw [hR, hB, hcast, Spline.bits_lo, Spline.bits_min, hA]
  simp only [hK k]
  by_cases hk : k ≤ K <;> simp [hk, FloatOps.sitofp]

/-- The marks one row up at a lane: one below the bin, zero from it on. -/
theorem below_apply (c : FVec Ideal S32x4096 .f32) (K : Fin 32) (hc : ∀ k : Fin 32, c (ix2 k l) = if k ≤ K then 1 else 0) (k : Fin 32) :
    below c (ix2 k l) = if k < K then 1 else 0 := by
  pointwise [below]
  split
  · rw [hc]
    have : ((⟨1 + k.val, by omega⟩ : Fin 32) ≤ K) ↔ k < K := by
      rw [Fin.le_def, Fin.lt_def]; simp only; omega
    simp only [this]
  · have : ¬ k < K := by rw [Fin.lt_def]; omega
    rw [if_neg this]

/-- The last part of the step at a lane, once the picked rows are known. -/
theorem tail_apply (x rw rh : FVec Ideal S1x4096 .f32) (r2 : FVec Ideal S56x4096 .f32) (K : Fin 32) (u u' : EReal)
    (hrw : rw (ix2 0 l) = ((Spline.cSize / ∑ k, e k : ℝ) : EReal)) (hrh : rh (ix2 0 l) = ((Spline.cSize / ∑ k, h k : ℝ) : EReal))
    (h0 : r2 (ix2 0 l) = (e K : EReal)) (h8 : r2 (ix2 8 l) = (h K : EReal)) (h16 : r2 (ix2 16 l) = (Spline.before e K.val : EReal))
    (h24 : r2 (ix2 24 l) = (Spline.before h K.val : EReal)) (h32 : r2 (ix2 32 l) = u) (h40 : r2 (ix2 40 l) = u')
    (h48 : r2 (ix2 48 l) = ((K.val : ℝ) : EReal)) :
    tail x rw rh r2 (ix2 0 l) = if x (ix2 0 l) < ((-3 : ℝ) : EReal) ∨ ((3 : ℝ) : EReal) < x (ix2 0 l) then x (ix2 0 l) else
    Spline.quad (Spline.edge h K.val : ℝ) (Spline.bin h K : ℝ) (Spline.slope u) (Spline.slope u') (Ideal.div (Spline.bin h K : ℝ) (Spline.bin e K : ℝ))
    (Spline.place (x (ix2 0 l)) (Spline.edge e K.val : ℝ) (Spline.bin e K : ℝ)) := by
  have hE : ∀ e : Fin 32 → ℝ, ((-3 : ℝ) : EReal) + (Spline.cMin : EReal) * ((K.val : ℝ) : EReal)
      + ((Spline.cSize / ∑ k, e k : ℝ) : EReal) * (Spline.before e K.val : EReal) = (Spline.edge e K.val : EReal) := by
    intro e
    rw [← EReal.coe_mul, ← EReal.coe_mul, ← EReal.coe_add, ← EReal.coe_add]; rfl
  have hW : ∀ e : Fin 32 → ℝ, ((Spline.cSize / ∑ k, e k : ℝ) : EReal) * (e K : EReal) + (Spline.cMin : EReal) = (Spline.bin e K : EReal) := by
    intro e
    rw [← EReal.coe_mul, ← EReal.coe_add]; rfl
  pointwise [tail, binSize, k0_pay34, k0_pay29, k0_pay30, k0_pay31, k0_pay32, k0_pay33, k0_pay28, k0_pay27]
  rw [hrw, hrh, h0, h8, h16, h24, h32, h40, h48]
  simp only [Spline.bits_min, Spline.bits_lo, Spline.bits_hi, Spline.bits_two, hE, hW]
  rw [Spline.select_or]
  simp only [zero_sub]
  rfl

/-- The marks of one bin: up to it less below it. -/
theorem mark_sub (K k : Fin 32) : ((if k ≤ K then 1 else 0 : EReal) - if k < K then 1 else 0) = if k = K then 1 else 0 := by
  rcases lt_trichotomy k K with h | h | h
  · rw [if_pos h.le, if_pos h, if_neg h.ne, ← EReal.coe_one, ← EReal.coe_sub, sub_self]; rfl
  · subst h; simp
  · rw [if_neg (not_le.mpr h), if_neg (not_lt.mpr h.le), if_neg h.ne', sub_zero]

/-- A sum against the marks of one bin is the term of that bin. -/
theorem sum_mark (K : Fin 32) (f : Fin 32 → EReal) : ∑ k : Fin 32, f k * ((if k ≤ K then 1 else 0 : EReal) - if k < K then 1 else 0) = f K := by
  simp only [mark_sub, mul_ite, mul_one, mul_zero, Finset.sum_ite_eq', Finset.mem_univ, if_true]

/-- A sum against the marks below a bin. -/
theorem sum_below (K : Fin 32) (e : Fin 32 → ℝ) : ∑ k : Fin 32, (e k : EReal) * (if k < K then 1 else 0) = (Spline.before e K.val : EReal) := by
  rw [Spline.before, Spline.coe_sum]
  refine Finset.sum_congr rfl fun k _ => ?_
  rw [mul_comm, mask_mul]; rfl

/-- The number of bins below a bin. -/
theorem count_below (K : Fin 32) : ∑ k : Fin 32, (if k < K then 1 else 0 : EReal) = ((K.val : ℝ) : EReal) := by
  have h := sum_below K fun _ => 1
  simp only [EReal.coe_one, one_mul] at h
  rw [h, Spline.before, Finset.sum_boole, EReal.coe_eq_coe_iff, Nat.cast_inj]
  clear h
  revert K; decide +kernel

/-- Group `q` of the picked rows. -/
theorem pick_group (ud : FVec Ideal S33x4096 .f32) (c cs : FVec Ideal S32x4096 .f32) (q : Fin 7) (r : Fin 56) (hr : r.val = 8 * q.val) :
    picks (groups ew eh ud c cs) (ix2 r l)
      = ∑ k : Fin 32, groupAt (ew (ix2 k l)) (eh (ix2 k l)) (ud (ix2 k.castSucc l)) (ud (ix2 k.succ l)) (c (ix2 k l)) (cs (ix2 k l)) q := by
  have h : r = ⟨8 * q.val, by omega⟩ := Fin.ext hr
  rw [h, picks_apply]
  exact Finset.sum_congr rfl fun k _ => groups_apply ew eh ud c cs q k l _ rfl

/-- The step from its weights and its raw slopes, at a lane whose point lies in bin `K`. -/
theorem step_apply (he : ∀ k : Fin 32, ew (ix2 k l) = (e k : EReal)) (hh : ∀ k : Fin 32, eh (ix2 k l) = (h k : EReal)) (hse : ∑ k, e k ≠ 0)
    (hsh : ∑ k, h k ≠ 0) (ud : FVec Ideal S33x4096 .f32) (x : FVec Ideal S1x4096 .f32) (K : Fin 32) (hK : Spline.IsBin e (x (ix2 0 l)) K) :
    tail x (rateW ew eh) (rateH ew eh) (picks (groups ew eh ud (upTo x ew eh) (below (upTo x ew eh)))) (ix2 0 l)
      = if x (ix2 0 l) < ((-3 : ℝ) : EReal) ∨ ((3 : ℝ) : EReal) < x (ix2 0 l) then x (ix2 0 l)
        else Spline.inside (x (ix2 0 l)) e h (fun j => ud (ix2 j l)) K := by
  have hc := upTo_apply ew eh l e h he hh hse x K hK
  have hb := below_apply l (upTo x ew eh) K hc
  refine tail_apply l e h x _ _ _ K _ _ (rateW_apply ew eh l e h he hh hse) (rateH_apply ew eh l e h he hh hsh) ?_ ?_ ?_ ?_ ?_ ?_ ?_
  · rw [pick_group ew eh l ud _ _ 0 _ rfl]
    simp only [groupAt, hc, hb, he, sum_mark]
  · rw [pick_group ew eh l ud _ _ 1 _ rfl]
    simp only [groupAt, hc, hb, hh, sum_mark]
  · rw [pick_group ew eh l ud _ _ 2 _ rfl]
    simp only [groupAt, hb, he, sum_below]
  · rw [pick_group ew eh l ud _ _ 3 _ rfl]
    simp only [groupAt, hb, hh, sum_below]
  · rw [pick_group ew eh l ud _ _ 4 _ rfl]
    simp only [groupAt, hc, hb, sum_mark K fun k => ud (ix2 k.castSucc l)]
  · rw [pick_group ew eh l ud _ _ 5 _ rfl]
    simp only [groupAt, hc, hb, sum_mark K fun k => ud (ix2 k.succ l)]
  · rw [pick_group ew eh l ud _ _ 6 _ rfl]
    simp only [groupAt, hb, count_below]

end Cert.KernelStep

end
-- ==== Proof.Flow.lean ====
/-
  One row of the flow as plain mathematics: the two-layer latent, the raw parameters, four spline steps between two affine maps, and
  the normal distribution function at the end.
-/
module

public import proofs.«01_k».proof.Proof.Knots

@[expose] public section

noncomputable section

namespace Cert.Spline

open Idealize.ShloMosaic

open Classical in
/-- The bin of `x`, if there is one. -/
def binOf (e : Fin 32 → ℝ) (x : EReal) : Fin 32 := if h : ∃ K, IsBin e x K then h.choose else 0

/-- From the left end on, the bin of `x` is a bin of `x`. -/
theorem binOf_spec (e : Fin 32 → ℝ) (he : ∀ k, 0 < e k) (x : EReal) (hx : ¬ x < ((-3 : ℝ) : EReal)) : IsBin e x (binOf e x) := by
  have h := exists_isBin e he x hx
  rw [binOf, dif_pos h]
  exact h.choose_spec

/-- The weight of a raw parameter, as a real number. -/
def weight (u : EReal) : ℝ := (Ideal.exp u).toReal

/-- A parameter below infinity has a positive real weight. -/
theorem weight_spec (u : EReal) (h0 : u ≠ ⊥) (h1 : u ≤ ((80 : ℝ) : EReal)) : Ideal.exp u = (weight u : EReal) ∧ 0 < weight u ∧ ∃ v : ℝ, u = v := by
  induction u with
  | bot => exact absurd rfl h0
  | top => exact absurd h1 (not_le.mpr (EReal.coe_lt_top _))
  | coe v =>
    rw [weight, Ideal.exp_coe, EReal.toReal_coe]
    exact ⟨rfl, Real.exp_pos v, v, rfl⟩

/-- One spline step: `x` itself outside the interval, the spline of the raw parameters `p` inside. -/
def stepAt (x : EReal) (p : Fin 97 → EReal) : EReal :=
  if x < ((-3 : ℝ) : EReal) ∨ ((3 : ℝ) : EReal) < x then x
  else inside x (fun k => weight (p ⟨k.val, by omega⟩)) (fun k => weight (p ⟨32 + k.val, by omega⟩)) (fun j => p ⟨64 + j.val, by omega⟩)
    (binOf (fun k => weight (p ⟨k.val, by omega⟩)) x)

/-- The last affine map and the normal distribution function. -/
def finish (x a2 a3 : EReal) : EReal :=
  Ideal.ofBits .f32 0x3F000000#32 * (1 + Ideal.erf ((x * Ideal.exp a3 + a2) * Ideal.ofBits .f32 0x3F3504F3#32))

variable (cond : Fin 64 → EReal) (w1 : Fin 64 → Fin 256 → EReal) (w2 : Fin 256 → Fin 256 → EReal) (sw : Fin 4 → Fin 256 → Fin 97 → EReal)
  (aw : Fin 256 → Fin 4 → EReal)

/-- The first layer. -/
def hidden (j : Fin 256) : EReal := max (∑ k, cond k * w1 k j) 0

/-- The second layer. -/
def latent (i : Fin 256) : EReal := max (∑ j, hidden cond w1 j * w2 j i) 0

/-- The raw parameters of one spline. -/
def params (s : Fin 4) (j : Fin 97) : EReal := ∑ i, latent cond w1 w2 i * sw s i j

/-- The four parameters of the affine maps. -/
def affine (j : Fin 4) : EReal := ∑ i, latent cond w1 w2 i * aw i j

/-- One row of the flow. -/
def answer (t : EReal) : EReal :=
  finish (stepAt (stepAt (stepAt (stepAt (t * Ideal.exp (affine cond w1 w2 aw 1) + affine cond w1 w2 aw 0)
    (params cond w1 w2 sw 3)) (params cond w1 w2 sw 2)) (params cond w1 w2 sw 1)) (params cond w1 w2 sw 0))
    (affine cond w1 w2 aw 2) (affine cond w1 w2 aw 3)

/-- The parameters that become weights lie above minus infinity and are at most 80. -/
def Bounded (p : Fin 97 → EReal) : Prop := ∀ k : Fin 97, k.val < 64 → p k ≠ ⊥ ∧ p k ≤ ((80 : ℝ) : EReal)

end Cert.Spline

end
-- ==== Proof.KernelBlock.lean ====
/-
  One block of the kernel: its four steps are one and the same function, and every lane of the block is the flow of its row.
-/
module

public import proofs.«01_k».proof.Proof.KernelLane
public import proofs.«01_k».proof.Proof.Flow
public import proofs.«01_k».proof.Proof.Gen.KernelIdeal.Frame

@[expose] public section

set_option maxRecDepth 16384

noncomputable section

namespace Cert.KernelStep

open Cert.KernelIdeal Cert.KernelIdeal.Gen Idealize.ShloMosaic Idealize.ShloMosaic.TcCoe

/-- Left of the interval a step leaves the point alone. -/
theorem tail_left (l : Fin 4096) (x rw rh : FVec Ideal S1x4096 .f32) (r2 : FVec Ideal S56x4096 .f32) (h : x (ix2 0 l) < ((-3 : ℝ) : EReal)) :
    tail x rw rh r2 (ix2 0 l) = x (ix2 0 l) := by
  pointwise [tail, binSize, k0_pay34, k0_pay29, k0_pay30, k0_pay31, k0_pay32, k0_pay33, k0_pay28, k0_pay27]
  rw [Spline.select_or, Spline.bits_lo, if_pos (Or.inl h)]

/-- One step of the kernel, at one lane. -/
theorem kStep_apply (l : Fin 4096) (x : FVec Ideal S1x4096 .f32) (p : FVec Ideal S97x4096 .f32) (hp : Spline.Bounded fun j => p (ix2 j l)) :
    kStep x p (ix2 0 l) = Spline.stepAt (x (ix2 0 l)) fun j => p (ix2 j l) := by
  by_cases hx : x (ix2 0 l) < ((-3 : ℝ) : EReal)
  · rw [Spline.stepAt, if_pos (Or.inl hx)]
    exact tail_left l x _ _ _ hx
  have hw : ∀ k : Fin 32, k0_pay92 p (ix2 k l) = (Spline.weight (p (ix2 (⟨k.val, by omega⟩ : Fin 97) l)) : EReal) := by
    intro k
    have h := hp ⟨k.val, by omega⟩ (by simp only; omega)
    pointwise [k0_pay92]
    rw [Spline.bits_eighty, min_eq_left h.2, (Spline.weight_spec _ h.1 h.2).1]
  have hh : ∀ k : Fin 32, k0_pay93 p (ix2 k l) = (Spline.weight (p (ix2 (⟨32 + k.val, by omega⟩ : Fin 97) l)) : EReal) := by
    intro k
    have h := hp ⟨32 + k.val, by omega⟩ (by simp only; omega)
    pointwise [k0_pay93]
    rw [Spline.bits_eighty, min_eq_left h.2, (Spline.weight_spec _ h.1 h.2).1]
  have hu : ∀ j : Fin 33, k0_pay94 p (ix2 j l) = p (ix2 (⟨64 + j.val, by omega⟩ : Fin 97) l) := by
    intro j
    pointwise [k0_pay94]
  have pw : ∀ k : Fin 32, 0 < Spline.weight (p (ix2 (⟨k.val, by omega⟩ : Fin 97) l)) := fun k => by
    have h := hp ⟨k.val, by omega⟩ (by simp only; omega)
    exact (Spline.weight_spec _ h.1 h.2).2.1
  have ph : ∀ k : Fin 32, 0 < Spline.weight (p (ix2 (⟨32 + k.val, by omega⟩ : Fin 97) l)) := fun k => by
    have h := hp ⟨32 + k.val, by omega⟩ (by simp only; omega)
    exact (Spline.weight_spec _ h.1 h.2).2.1
  refine (step_apply _ _ l _ _ hw hh (Finset.sum_pos (fun k _ => pw k) Finset.univ_nonempty).ne'
    (Finset.sum_pos (fun k _ => ph k) Finset.univ_nonempty).ne' _ x _ (Spline.binOf_spec _ pw _ hx)).trans ?_
  simp only [hu]
  rfl

variable (x0 : Vec Ideal S4096x64 .f32) (x1 : Vec Ideal S1x1x4096 .f32) (x2 : Vec Ideal S64x256 .f32) (x3 : Vec Ideal S256x256 .f32) (x4 : Vec Ideal S256x448 .f32)

/-- The first step of the block. -/
theorem first_step : k0_pay138 x0 x1 x2 x3 x4 = kStep (k0_pay118 x0 x1 x2 x3 x4)
    (extractStridedSlice S97x4096 ![312, 0] (k0_pay117 x0 x1 x2 x3 x4) slices_S448x4096_o312_0_S97x4096) := rfl

/-- The second step of the block. -/
theorem second_step : k0_pay157 x0 x1 x2 x3 x4 = kStep (k0_pay138 x0 x1 x2 x3 x4)
    (extractStridedSlice S97x4096 ![208, 0] (k0_pay117 x0 x1 x2 x3 x4) slices_S448x4096_o208_0_S97x4096) := rfl

/-- The third step of the block. -/
theorem third_step : k0_pay169 x0 x1 x2 x3 x4 = kStep (k0_pay157 x0 x1 x2 x3 x4)
    (extractStridedSlice S97x4096 ![104, 0] (k0_pay117 x0 x1 x2 x3 x4) slices_S448x4096_o104_0_S97x4096) := rfl

/-- The fourth step of the block, before the last affine map. -/
def fourth : FVec Ideal S1x4096 .f32 := kStep (k0_pay169 x0 x1 x2 x3 x4)
    (extractStridedSlice S97x4096 ![0, 0] (k0_pay117 x0 x1 x2 x3 x4) slices_S448x4096_o0_0_S97x4096)

/-- The last affine map and the distribution function, over the lanes. -/
def closing (a2 a3 x : FVec Ideal S1x4096 .f32) : FVec Ideal S1x4096 .f32 :=
  mulf (broadcast S1x4096 (Scalar.ofBits .f32 0x3F000000#32)) (addf (broadcast S1x4096 (Scalar.ofBits .f32 0x3F800000#32))
    (erf (mulf (addf (mulf x (exp a3)) a2) (broadcast S1x4096 (Scalar.ofBits .f32 0x3F3504F3#32)))))

/-- What the body stores. -/
theorem stored : out0_5 x0 x1 x2 x3 x4 = View.canon [⟨r0_4, k0_pay1 (closing
    (extractStridedSlice S1x4096 ![432, 0] (k0_pay117 x0 x1 x2 x3 x4) slices_S448x4096_o432_0_S1x4096)
    (extractStridedSlice S1x4096 ![440, 0] (k0_pay117 x0 x1 x2 x3 x4) slices_S448x4096_o440_0_S1x4096) (fourth x0 x1 x2 x3 x4))⟩] := rfl

/-- The latent of the block's rows through the joined weights, row by row of the product. -/
theorem logits_apply (r : Fin 448) (l : Fin 4096) : k0_pay2 x2 x0 x3 x4 (ix2 r l)
    = ∑ i, Spline.latent (fun k => x0 (ix2 l k)) (fun k j => x2 (ix2 k j)) (fun j i => x3 (ix2 j i)) i * x4 (ix2 i r) := by
  pointwise [k0_pay2]
  refine Finset.sum_congr rfl fun i _ => ?_
  rw [mul_comm]
  refine congrArg (· * x4 (ix2 i r)) ?_
  unfold Spline.latent Spline.hidden
  refine congrArg (max · 0) (Finset.sum_congr rfl fun j _ => ?_)
  rw [mul_comm]
  refine congrArg (max · 0 * x3 (ix2 j i)) (Finset.sum_congr rfl fun k _ => ?_)
  exact mul_comm _ _

theorem zeros2 : (![0, 0] : Fin 2 → ℕ) = fun _ => 0 := by decide
theorem zeros3 : (![0, 0, 0] : Fin 3 → ℕ) = fun _ => 0 := by decide

/-- The block's product, from the blocks themselves. -/
theorem product_apply (r : Fin 448) (l : Fin 4096) : k0_pay117 x0 x1 x2 x3 x4 (ix2 r l)
    = ∑ i, Spline.latent (fun k => x0 (ix2 l k)) (fun k j => x2 (ix2 k j)) (fun j i => x3 (ix2 j i)) i * x4 (ix2 i r) := by
  have h := logits_apply x0 x2 x3 x4 r l
  rw [← h]
  unfold k0_pay117
  rw [show View.ld x2 r0_0 = x2 from View.ld_unit_zero zeros2 _ x2, show View.ld x0 r0_1 = x0 from View.ld_unit_zero zeros2 _ x0,
    show View.ld x3 r0_2 = x3 from View.ld_unit_zero zeros2 _ x3, show View.ld x4 r0_3 = x4 from View.ld_unit_zero zeros2 _ x4]

/-- The point after the first affine map. -/
theorem start_apply (l : Fin 4096) : k0_pay118 x0 x1 x2 x3 x4 (ix2 0 l)
    = x1 (ix3 0 0 l) * Ideal.exp (k0_pay117 x0 x1 x2 x3 x4 (ix2 424 l)) + k0_pay117 x0 x1 x2 x3 x4 (ix2 416 l) := by
  unfold k0_pay118
  rw [show View.ld x1 r0_4 = x1 from View.ld_unit_zero zeros3 _ x1]
  have h : ∀ p : FVec Ideal S448x4096 .f32, addf (mulf (shapeCast S1x4096 x1 shapeCasts_S1x1x4096_S1x4096)
      (exp (extractStridedSlice S1x4096 ![424, 0] p slices_S448x4096_o424_0_S1x4096)))
      (extractStridedSlice S1x4096 ![416, 0] p slices_S448x4096_o416_0_S1x4096) (ix2 0 l) = x1 (ix3 0 0 l) * Ideal.exp (p (ix2 424 l)) + p (ix2 416 l) := by
    intro p
    pointwise []
  exact h _

/-- A step at a lane, from its point and its parameters. -/
theorem step_rows (x : FVec Ideal S1x4096 .f32) (q : Fin 97 → EReal) (l : Fin 4096) (v : EReal) (hx : x (ix2 0 l) = v)
    (p' : FVec Ideal S97x4096 .f32) (hq : ∀ j, p' (ix2 j l) = q j) (hB : Spline.Bounded q) : kStep x p' (ix2 0 l) = Spline.stepAt v q := by
  have h : (fun j => p' (ix2 j l)) = q := funext hq
  rw [kStep_apply l x p' (h ▸ hB), h, hx]

variable (sw : Fin 4 → Fin 256 → Fin 97 → EReal) (aw : Fin 256 → Fin 4 → EReal)

/-- A lane of the block is the flow of its row, when the joined weights hold the spline weights and the affine weights in their columns. -/
theorem block_apply (hs : ∀ (s : Fin 4) (k : Fin 256) (j : Fin 97) (r : Fin 448), r.val = 104 * s.val + j.val → x4 (ix2 k r) = sw s k j)
    (ha : ∀ (k : Fin 256) (j : Fin 4) (r : Fin 448), r.val = 416 + 8 * j.val → x4 (ix2 k r) = aw k j) (l : Fin 4096)
    (hB : ∀ s, Spline.Bounded (Spline.params (fun k => x0 (ix2 l k)) (fun k j => x2 (ix2 k j)) (fun j i => x3 (ix2 j i)) sw s)) :
    out0_5 x0 x1 x2 x3 x4 (ix3 0 0 l)
      = Spline.answer (fun k => x0 (ix2 l k)) (fun k j => x2 (ix2 k j)) (fun j i => x3 (ix2 j i)) sw aw (x1 (ix3 0 0 l)) := by
  have hS : ∀ (s : Fin 4) (j : Fin 97) (r : Fin 448), r.val = 104 * s.val + j.val → k0_pay117 x0 x1 x2 x3 x4 (ix2 r l)
      = Spline.params (fun k => x0 (ix2 l k)) (fun k j => x2 (ix2 k j)) (fun j i => x3 (ix2 j i)) sw s j := by
    intro s j r hr
    rw [product_apply]
    exact Finset.sum_congr rfl fun k _ => by rw [hs s k j r hr]
  have hA : ∀ (j : Fin 4) (r : Fin 448), r.val = 416 + 8 * j.val → k0_pay117 x0 x1 x2 x3 x4 (ix2 r l)
      = Spline.affine (fun k => x0 (ix2 l k)) (fun k j => x2 (ix2 k j)) (fun j i => x3 (ix2 j i)) aw j := by
    intro j r hr
    rw [product_apply]
    exact Finset.sum_congr rfl fun k _ => by rw [ha k j r hr]
  have h0 := start_apply x0 x1 x2 x3 x4 l
  rw [hA 1 424 rfl, hA 0 416 rfl] at h0
  have h1 := step_rows _ _ l _ h0 (extractStridedSlice S97x4096 ![312, 0] (k0_pay117 x0 x1 x2 x3 x4) slices_S448x4096_o312_0_S97x4096)
    (fun j => by
      refine Eq.trans ?_ (hS 3 j ⟨312 + j.val, by omega⟩ rfl)
      generalize k0_pay117 x0 x1 x2 x3 x4 = p
      pointwise []) (hB 3)
  rw [← first_step] at h1
  have h2 := step_rows _ _ l _ h1 (extractStridedSlice S97x4096 ![208, 0] (k0_pay117 x0 x1 x2 x3 x4) slices_S448x4096_o208_0_S97x4096)
    (fun j => by
      refine Eq.trans ?_ (hS 2 j ⟨208 + j.val, by omega⟩ rfl)
      generalize k0_pay117 x0 x1 x2 x3 x4 = p
      pointwise []) (hB 2)
  rw [← second_step] at h2
  have h3 := step_rows _ _ l _ h2 (extractStridedSlice S97x4096 ![104, 0] (k0_pay117 x0 x1 x2 x3 x4) slices_S448x4096_o104_0_S97x4096)
    (fun j => by
      refine Eq.trans ?_ (hS 1 j ⟨104 + j.val, by omega⟩ rfl)
      generalize k0_pay117 x0 x1 x2 x3 x4 = p
      pointwise []) (hB 1)
  rw [← third_step] at h3
  have h4 := step_rows _ _ l _ h3 (extractStridedSlice S97x4096 ![0, 0] (k0_pay117 x0 x1 x2 x3 x4) slices_S448x4096_o0_0_S97x4096)
    (fun j => by
      refine Eq.trans ?_ (hS 0 j ⟨j.val, by omega⟩ (by simp))
      generalize k0_pay117 x0 x1 x2 x3 x4 = p
      pointwise []) (hB 0)
  have h4' : fourth x0 x1 x2 x3 x4 (ix2 0 l) = _ := h4
  have h5 := hA 2 432 rfl
  have h6 := hA 3 440 rfl
  rw [stored, show ∀ p, View.canon [(⟨r0_4, p⟩ : View.Piece (Elt Ideal) S1x1x4096 .f32)] = p from fun p => View.canon_unit_zero zeros3 _ p,
    Spline.answer, ← h4', ← h5, ← h6]
  generalize fourth x0 x1 x2 x3 x4 = y
  generalize k0_pay117 x0 x1 x2 x3 x4 = p
  pointwise [k0_pay1, closing]
  rfl

end Cert.KernelStep

end
-- ==== Proof.KernelHost.lean ====
/-
  What the kernel's host lines lay out before the blocks run: the joined weights, and the points one row of lanes per block.
-/
module

public import proofs.«01_k».proof.Proof.Gen.KernelIdeal.Frame
public import Idealize.ShloMosaic.Lib.StableHlo.ReadAt
public import Idealize.ShloMosaic.Lib.Pipeline.Value
public import Idealize.ShloMosaic.Lib.Pointwise

@[expose] public section

set_option maxRecDepth 16384

noncomputable section

namespace Cert.KernelStep

open Cert.KernelIdeal Cert.KernelIdeal.Gen Idealize.ShloMosaic Idealize.ShloMosaic.TcCoe

/-- Spline `o`'s weights as one matrix. -/
def splineWeights (o : ℕ) (h : S4x256x97.Slices ![o, 0, 0] S1x256x97) (a6 : FVec Ideal S4x256x97 .f32) : FVec Ideal S256x97 .f32 :=
  shapeCast S256x97 (extractStridedSlice S1x256x97 ![o, 0, 0] a6 h) shapeCasts_S1x256x97_S256x97

/-- Spline `o`'s weights, entry by entry. -/
theorem splineWeights_apply (o : ℕ) (h : S4x256x97.Slices ![o, 0, 0] S1x256x97) (s : Fin 4) (hs : o = s.val) (a6 : FVec Ideal S4x256x97 .f32) (k : Fin 256) (j : Fin 97) :
    splineWeights o h a6 (ix2 k j) = a6 (ix3 s k j) := by
  subst hs
  pointwise [splineWeights]

/-- Eight columns of padding hold this. -/
def padding : FVec Ideal S256x7 .f32 := broadcastInDim S256x7 ![] bcast_S_S256x7 (constant S_ .f32 0x00000000#32)

/-- The pieces of the joined weights: four splines' matrices, then the four columns of the affine maps, each padded to a multiple of eight columns. -/
def pieces (w0 w1 w2 w3 : FVec Ideal S256x97 .f32) (z0 z1 z2 z3 z4 : FVec Ideal S256x7 .f32) (c0 c1 c2 c3 : FVec Ideal S256x1 .f32) : List ((s : Shape) × FVec Ideal s .f32) :=
  [⟨S256x97, w0⟩, ⟨S256x7, z0⟩, ⟨S256x97, w1⟩, ⟨S256x7, z0⟩, ⟨S256x97, w2⟩, ⟨S256x7, z0⟩, ⟨S256x97, w3⟩, ⟨S256x7, z0⟩,
    ⟨S256x1, c0⟩, ⟨S256x7, z1⟩, ⟨S256x1, c1⟩, ⟨S256x7, z2⟩, ⟨S256x1, c2⟩, ⟨S256x7, z3⟩, ⟨S256x1, c3⟩, ⟨S256x7, z4⟩]

variable (w0 w1 w2 w3 : FVec Ideal S256x97 .f32) (z0 z1 z2 z3 z4 : FVec Ideal S256x7 .f32) (c0 c1 c2 c3 : FVec Ideal S256x1 .f32)

/-- The pieces fill the joined weights. -/
theorem pieces_fill : Shape.Concatenates ((pieces w0 w1 w2 w3 z0 z1 z2 z3 z4 c0 c1 c2 c3).map (·.1)) S256x448 1 :=
  concatenates_S256x97_S256x7_S256x97_S256x7_S256x97_S256x7_S256x97_S256x7_S256x1_S256x7_S256x1_S256x7_S256x1_S256x7_S256x1_S256x7_S256x448_d1

/-- The joined weights. -/
def joined : FVec Ideal S256x448 .f32 :=
  concatenate S256x448 1 (pieces w0 w1 w2 w3 z0 z1 z2 z3 z4 c0 c1 c2 c3) (pieces_fill w0 w1 w2 w3 z0 z1 z2 z3 z4 c0 c1 c2 c3)

/-- Off the joined axis two indices of one row agree. -/
theorem off_axis {n : ℕ} (k : Fin 256) (j : Fin n) (r : Fin 448) (b : Fin 2) (h : b ≠ (1 : Fin 2)) : ((ix2 k j) b).val = ((ix2 k r) b).val := by
  match b with
  | 0 => rfl
  | 1 => exact absurd rfl h

/-- How many columns lie before piece `n`. -/
def before (n : ℕ) : ℕ :=
  ((([S256x97, S256x7, S256x97, S256x7, S256x97, S256x7, S256x97, S256x7, S256x1, S256x7, S256x1, S256x7, S256x1, S256x7, S256x1, S256x7] : List Shape).take n).map
    fun s => if h : s.rank = S256x448.rank then s.size ((1 : Fin S256x448.rank).cast h.symm) else 0).sum

/-- Before spline `s` lie `104 s` columns. -/
theorem before_spline (s : Fin 4) : before (2 * s.val) = 104 * s.val := by
  revert s
  decide +kernel

/-- Before column `j` of the affine maps lie `416 + 8 j` columns. -/
theorem before_affine (j : Fin 4) : before (8 + 2 * j.val) = 416 + 8 * j.val := by
  revert j
  decide +kernel

/-- Column `104 s + j` is column `j` of spline `s`. -/
theorem joined_spline (s : Fin 4) (k : Fin 256) (j : Fin 97) (r : Fin 448) (h : r.val = 104 * s.val + j.val) :
    joined w0 w1 w2 w3 z0 z1 z2 z3 z4 c0 c1 c2 c3 (ix2 k r) = (![w0, w1, w2, w3] s) (ix2 k j) := by
  have hk : 2 * s.val < (pieces w0 w1 w2 w3 z0 z1 z2 z3 z4 c0 c1 c2 c3).length := by show _ < 16; omega
  refine concatenate_apply_piece (t := S256x448) 1 (pieces w0 w1 w2 w3 z0 z1 z2 z3 z4 c0 c1 c2 c3) (pieces_fill w0 w1 w2 w3 z0 z1 z2 z3 z4 c0 c1 c2 c3) (ix2 k r) (2 * s.val) hk S256x97 (![w0, w1, w2, w3] s) ?_ rfl (104 * s.val) ?_ (ix2 k j) (off_axis k j r) h.symm
  · fin_cases s <;> rfl
  · rw [List.map_take]
    exact before_spline s

/-- Column `416 + 8 j` is column `j` of the affine maps. -/
theorem joined_affine (k : Fin 256) (j : Fin 4) (r : Fin 448) (h : r.val = 416 + 8 * j.val) :
    joined w0 w1 w2 w3 z0 z1 z2 z3 z4 c0 c1 c2 c3 (ix2 k r) = (![c0, c1, c2, c3] j) (ix2 k 0) := by
  have hk : 8 + 2 * j.val < (pieces w0 w1 w2 w3 z0 z1 z2 z3 z4 c0 c1 c2 c3).length := by show _ < 16; omega
  refine concatenate_apply_piece (t := S256x448) 1 (pieces w0 w1 w2 w3 z0 z1 z2 z3 z4 c0 c1 c2 c3) (pieces_fill w0 w1 w2 w3 z0 z1 z2 z3 z4 c0 c1 c2 c3) (ix2 k r) (8 + 2 * j.val) hk S256x1 (![c0, c1, c2, c3] j) ?_ rfl (416 + 8 * j.val) ?_ (ix2 k 0) (off_axis k 0 r) h.symm
  · fin_cases j <;> rfl
  · rw [List.map_take]
    exact before_affine j

/-- The region finds the joined weights of the two arguments. -/
theorem entry_weights (m : (ℓ : Loc nD τ sig) → Buf (Elt Ideal) ℓ) (c : Dev nD) :
    (V m c main_v17 : FVec Ideal S256x448 .f32) = joined (splineWeights 0 slices_S4x256x97_S1x256x97_0_0_0 (m ((c : Thread nD τ).loc main_arg6)))
      (splineWeights 1 slices_S4x256x97_S1x256x97_1_0_0 (m ((c : Thread nD τ).loc main_arg6)))
      (splineWeights 2 slices_S4x256x97_S1x256x97_2_0_0 (m ((c : Thread nD τ).loc main_arg6)))
      (splineWeights 3 slices_S4x256x97_S1x256x97_3_0_0 (m ((c : Thread nD τ).loc main_arg6))) padding padding padding padding padding
      (extractStridedSlice S256x1 ![0, 0] (m ((c : Thread nD τ).loc main_arg8)) slices_S256x4_S256x1_0_0)
      (extractStridedSlice S256x1 ![0, 1] (m ((c : Thread nD τ).loc main_arg8)) slices_S256x4_S256x1_0_1)
      (extractStridedSlice S256x1 ![0, 2] (m ((c : Thread nD τ).loc main_arg8)) slices_S256x4_S256x1_0_2)
      (extractStridedSlice S256x1 ![0, 3] (m ((c : Thread nD τ).loc main_arg8)) slices_S256x4_S256x1_0_3) := by
  unfold V V0
  after_reads_simp
  rfl

/-- The region finds the points one row of lanes per block. -/
theorem entry_points (m : (ℓ : Loc nD τ sig) → Buf (Elt Ideal) ℓ) (c : Dev nD) :
    (V m c main_v18 : FVec Ideal S64x1x4096 .f32) = shapeCast S64x1x4096 (m ((c : Thread nD τ).loc main_arg1)) shapeCasts_S262144x1_S64x1x4096 := by
  unfold V V0
  after_reads_simp
  rfl

/-- Column `104 s + j` of what the region finds is spline `s`'s column `j`. -/
theorem entry_spline (m : (ℓ : Loc nD τ sig) → Buf (Elt Ideal) ℓ) (c : Dev nD) (s : Fin 4) (k : Fin 256) (j : Fin 97) (r : Fin 448) (h : r.val = 104 * s.val + j.val) :
    (V m c main_v17 : FVec Ideal S256x448 .f32) (ix2 k r) = (m ((c : Thread nD τ).loc main_arg6) : FVec Ideal S4x256x97 .f32) (ix3 s k j) := by
  rw [entry_weights, joined_spline _ _ _ _ _ _ _ _ _ _ _ _ _ s k j r h]
  match s with
  | 0 => exact splineWeights_apply 0 slices_S4x256x97_S1x256x97_0_0_0 0 rfl _ k j
  | 1 => exact splineWeights_apply 1 slices_S4x256x97_S1x256x97_1_0_0 1 rfl _ k j
  | 2 => exact splineWeights_apply 2 slices_S4x256x97_S1x256x97_2_0_0 2 rfl _ k j
  | 3 => exact splineWeights_apply 3 slices_S4x256x97_S1x256x97_3_0_0 3 rfl _ k j

/-- One column of the affine maps, entry by entry. -/
theorem affineColumn_apply (o : ℕ) (h : S256x4.Slices ![0, o] S256x1) (j : Fin 4) (hj : o = j.val) (a8 : FVec Ideal S256x4 .f32) (k : Fin 256) :
    extractStridedSlice S256x1 ![0, o] a8 h (ix2 k 0) = a8 (ix2 k j) := by
  subst hj
  pointwise

/-- Column `416 + 8 j` of what the region finds is column `j` of the affine maps. -/
theorem entry_affine (m : (ℓ : Loc nD τ sig) → Buf (Elt Ideal) ℓ) (c : Dev nD) (k : Fin 256) (j : Fin 4) (r : Fin 448) (h : r.val = 416 + 8 * j.val) :
    (V m c main_v17 : FVec Ideal S256x448 .f32) (ix2 k r) = (m ((c : Thread nD τ).loc main_arg8) : FVec Ideal S256x4 .f32) (ix2 k j) := by
  rw [entry_weights, joined_affine _ _ _ _ _ _ _ _ _ _ _ _ _ k j r h]
  match j with
  | 0 => exact affineColumn_apply 0 slices_S256x4_S256x1_0_0 0 rfl _ k
  | 1 => exact affineColumn_apply 1 slices_S256x4_S256x1_0_1 1 rfl _ k
  | 2 => exact affineColumn_apply 2 slices_S256x4_S256x1_0_2 2 rfl _ k
  | 3 => exact affineColumn_apply 3 slices_S256x4_S256x1_0_3 3 rfl _ k

/-- Lane `l` of block `t` is point `4096 t + l`. -/
theorem points_apply (a1 : FVec Ideal S262144x1 .f32) (t : Fin 64) (l : Fin 4096) (b : Fin 262144) (h : b.val = 4096 * t.val + l.val) :
    shapeCast S64x1x4096 a1 shapeCasts_S262144x1_S64x1x4096 (ix3 t 0 l) = a1 (ix2 b 0) := by
  pointwise
  exact congrArg (fun i => a1 (ix2 i 0)) (Fin.ext (by show t.val * 4096 + l.val = b.val; omega))

/-- Laid out as one column, entry `b` is lane `b mod 4096` of block `b / 4096`. -/
theorem column_apply (y : FVec Ideal S64x1x4096 .f32) (t : Fin 64) (l : Fin 4096) (b : Fin 262144) (h : b.val = 4096 * t.val + l.val) :
    shapeCast S262144x1 y shapeCasts_S64x1x4096_S262144x1 (ix2 b 0) = y (ix3 t 0 l) := by
  pointwise
  exact congrArg₂ (fun i j => y (ix3 i 0 j)) (Fin.ext (by show b.val / 4096 = t.val; omega)) (Fin.ext (by show b.val % 4096 = l.val; omega))

end Cert.KernelStep

end
-- ==== Proof.KernelArray.lean ====
/-
  The kernel's array: the block of each grid point is 4096 rows, and the array it leaves holds the flow of every row.
-/
module

public import proofs.«01_k».proof.Proof.KernelBlock
public import proofs.«01_k».proof.Proof.KernelHost

@[expose] public section

set_option maxRecDepth 16384

noncomputable section

namespace Cert.KernelStep

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- The flow of row `b` of the arguments. -/
def result (b : Fin 262144) : EReal :=
  Spline.answer (fun k => (m ((c : Thread nD τ).loc main_arg0) : FVec Ideal S262144x64 .f32) (ix2 b k))
    (fun k j => (m ((c : Thread nD τ).loc main_arg2) : FVec Ideal S64x256 .f32) (ix2 k j))
    (fun j i => (m ((c : Thread nD τ).loc main_arg4) : FVec Ideal S256x256 .f32) (ix2 j i))
    (fun s i j => (m ((c : Thread nD τ).loc main_arg6) : FVec Ideal S4x256x97 .f32) (ix3 s i j))
    (fun i j => (m ((c : Thread nD τ).loc main_arg8) : FVec Ideal S256x4 .f32) (ix2 i j))
    ((m ((c : Thread nD τ).loc main_arg1) : FVec Ideal S262144x1 .f32) (ix2 b 0))

/-- The spline parameters of every row are bounded. -/
def AllBounded : Prop :=
  ∀ (b : Fin 262144) (s : Fin 4), Spline.Bounded (Spline.params (fun k => (m ((c : Thread nD τ).loc main_arg0) : FVec Ideal S262144x64 .f32) (ix2 b k))
    (fun k j => (m ((c : Thread nD τ).loc main_arg2) : FVec Ideal S64x256 .f32) (ix2 k j))
    (fun j i => (m ((c : Thread nD τ).loc main_arg4) : FVec Ideal S256x256 .f32) (ix2 j i))
    (fun s i j => (m ((c : Thread nD τ).loc main_arg6) : FVec Ideal S4x256x97 .f32) (ix3 s i j)) s)

/-- Which block of its array each window is on at a grid point: the moving ones on the point's own, the others on the only one. -/
theorem index_facts (t : Fin cfg0.N) :
    (win0_0.index t 0 = t.val ∧ win0_0.index t 1 = 0) ∧ (win0_1.index t 0 = t.val ∧ win0_1.index t 1 = 0 ∧ win0_1.index t 2 = 0)
      ∧ (win0_2.index t 0 = 0 ∧ win0_2.index t 1 = 0) ∧ (win0_3.index t 0 = 0 ∧ win0_3.index t 1 = 0) ∧ (win0_4.index t 0 = 0 ∧ win0_4.index t 1 = 0)
      ∧ (win0_5.index t 0 = t.val ∧ win0_5.index t 1 = 0 ∧ win0_5.index t 2 = 0) := by
  revert t
  decide +kernel

/-- Row `4096 t + l`, the one lane `l` of grid point `t` is about. -/
def row (t : Fin cfg0.N) (l : Fin 4096) : Fin 262144 :=
  ⟨4096 * t.val + l.val, by have h : t.val < 64 := t.isLt; omega⟩

/-- The first window's block: rows `4096 t` on of the conditions. -/
theorem block_cond (t : Fin cfg0.N) (l : Fin 4096) (k : Fin 64) :
    (iblk m c 0 t : FVec Ideal S4096x64 .f32) (ix2 l k) = (m ((c : Thread nD τ).loc main_arg0) : FVec Ideal S262144x64 .f32) (ix2 (row t l) k) := by
  have hi := (index_facts t).1
  rw [← V_main_arg0 m c]
  unfold iblk
  rw [View.read_apply]
  show V m c main_arg0 _ = V m c main_arg0 _
  congr 1
  funext a
  apply Fin.ext
  match a with
  | ⟨0, _⟩ => show win0_0.index t 0 * 4096 + 1 * l.val = 4096 * t.val + l.val; rw [hi.1]; omega
  | ⟨1, _⟩ => show win0_0.index t 1 * 64 + 1 * k.val = k.val; rw [hi.2]; omega

/-- The second window's block: the points of those rows. -/
theorem block_point (t : Fin cfg0.N) (l : Fin 4096) :
    (iblk m c 1 t : FVec Ideal S1x1x4096 .f32) (ix3 0 0 l) = (m ((c : Thread nD τ).loc main_arg1) : FVec Ideal S262144x1 .f32) (ix2 (row t l) 0) := by
  have hi := (index_facts t).2.1
  rw [← points_apply (m ((c : Thread nD τ).loc main_arg1)) ⟨t.val, t.isLt⟩ l (row t l) rfl, ← entry_points m c]
  unfold iblk
  rw [View.read_apply]
  show V m c main_v18 _ = V m c main_v18 _
  congr 1
  funext a
  apply Fin.ext
  match a with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 4096 + 1 * l.val = l.val; rw [hi.2.2]; omega

/-- The third window holds the first layer's weights. -/
theorem block_first (t : Fin cfg0.N) (k : Fin 64) (j : Fin 256) :
    (iblk m c 2 t : FVec Ideal S64x256 .f32) (ix2 k j) = (m ((c : Thread nD τ).loc main_arg2) : FVec Ideal S64x256 .f32) (ix2 k j) := by
  have hi := (index_facts t).2.2.1
  rw [← V_main_arg2 m c]
  unfold iblk
  rw [View.read_apply]
  show V m c main_arg2 _ = V m c main_arg2 _
  congr 1
  funext a
  apply Fin.ext
  match a with
  | ⟨0, _⟩ => show win0_2.index t 0 * 64 + 1 * k.val = k.val; rw [hi.1]; omega
  | ⟨1, _⟩ => show win0_2.index t 1 * 256 + 1 * j.val = j.val; rw [hi.2]; omega

/-- The fourth window holds the second layer's weights. -/
theorem block_second (t : Fin cfg0.N) (j i : Fin 256) :
    (iblk m c 3 t : FVec Ideal S256x256 .f32) (ix2 j i) = (m ((c : Thread nD τ).loc main_arg4) : FVec Ideal S256x256 .f32) (ix2 j i) := by
  have hi := (index_facts t).2.2.2.1
  rw [← V_main_arg4 m c]
  unfold iblk
  rw [View.read_apply]
  show V m c main_arg4 _ = V m c main_arg4 _
  congr 1
  funext a
  apply Fin.ext
  match a with
  | ⟨0, _⟩ => show win0_3.index t 0 * 256 + 1 * j.val = j.val; rw [hi.1]; omega
  | ⟨1, _⟩ => show win0_3.index t 1 * 256 + 1 * i.val = i.val; rw [hi.2]; omega

/-- The fifth window holds the joined weights. -/
theorem block_joined (t : Fin cfg0.N) (k : Fin 256) (r : Fin 448) :
    (iblk m c 4 t : FVec Ideal S256x448 .f32) (ix2 k r) = (V m c main_v17 : FVec Ideal S256x448 .f32) (ix2 k r) := by
  have hi := (index_facts t).2.2.2.2.1
  unfold iblk
  rw [View.read_apply]
  show V m c main_v17 _ = V m c main_v17 _
  congr 1
  funext a
  apply Fin.ext
  match a with
  | ⟨0, _⟩ => show win0_4.index t 0 * 256 + 1 * k.val = k.val; rw [hi.1]; omega
  | ⟨1, _⟩ => show win0_4.index t 1 * 448 + 1 * r.val = r.val; rw [hi.2]; omega

/-- Lane `l` of what grid point `t` computes is the flow of row `4096 t + l`. -/
theorem block_result (hB : AllBounded m c) (t : Fin cfg0.N) (l : Fin 4096) :
    out0_5 (iblk m c 0 t) (iblk m c 1 t) (iblk m c 2 t) (iblk m c 3 t) (iblk m c 4 t) (ix3 0 0 l) = result m c (row t l) := by
  have h0 := fun k => block_cond m c t l k
  have h2 := fun k j => block_first m c t k j
  have h3 := fun j i => block_second m c t j i
  have hb := hB (row t l)
  have hp := block_apply (iblk m c 0 t) (iblk m c 1 t) (iblk m c 2 t) (iblk m c 3 t) (iblk m c 4 t)
    (fun s i j => (m ((c : Thread nD τ).loc main_arg6) : FVec Ideal S4x256x97 .f32) (ix3 s i j))
    (fun i j => (m ((c : Thread nD τ).loc main_arg8) : FVec Ideal S256x4 .f32) (ix2 i j))
    (fun s k j r h => (block_joined m c t k r).trans (entry_spline m c s k j r h))
    (fun k j r h => (block_joined m c t k r).trans (entry_affine m c k j r h)) l
  rw [funext h0, funext fun k => funext (h2 k), funext fun j => funext (h3 j), block_point m c t l] at hp
  exact hp hb

/-- The array the region leaves: the flow of every row, one row of lanes per grid point. -/
def array : FVec Ideal S64x1x4096 .f32 := fun i =>
  result m c ⟨4096 * (i 0).val + (i 2).val, by have h0 : (i 0).val < 64 := (i 0).isLt; have h2 : (i 2).val < 4096 := (i 2).isLt; omega⟩

/-- An index of a block is its lane. -/
theorem lane_eta (j : S1x1x4096.Idx) : j = ix3 0 0 (j 2) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => rfl

/-- What grid point `t` writes back is its block of that array. -/
theorem flushed_eq (hB : AllBounded m c) (t : Fin cfg0.N) :
    (dats m 0 c).flushed 5 t = ((cfg0.win 5).blk t).view.read (Elt Ideal) (array m c) := by
  have hi := (index_facts t).2.2.2.2.2
  show (cfg0.win 5).cut (grid0.coords t) ((dats m 0 c).after 5 t) = _
  rw [after0_5]
  funext j
  rw [View.read_apply]
  show out0_5 (iblk m c 0 t) (iblk m c 1 t) (iblk m c 2 t) (iblk m c 3 t) (iblk m c 4 t) j = array m c _
  refine (congrArg (out0_5 (iblk m c 0 t) (iblk m c 1 t) (iblk m c 2 t) (iblk m c 3 t) (iblk m c 4 t)) (lane_eta j)).trans ((block_result m c hB t (j 2)).trans ?_)
  unfold array
  congr 1
  apply Fin.ext
  show 4096 * t.val + (j 2).val = 4096 * (win0_5.index t 0 * 1 + 1 * (j 0).val) + (win0_5.index t 2 * 4096 + 1 * (j 2).val)
  have h : (j 0).val < 1 := (j 0).isLt
  rw [hi.1, hi.2.2]
  omega

/-- An index of the array is in grid point `t`'s block exactly when its first coordinate is `t`. -/
theorem mem_block (t : Fin cfg0.N) (i : S64x1x4096.Idx) (h : (i 0).val = t.val) : i ∈ ((cfg0.win 5).blk t).view.set := by
  have hi := (index_facts t).2.2.2.2.2
  show i ∈ ((View.whole main_v19).slice (win0_5.rect t)).set
  rw [View.set_slice_whole, Rect.mem_set_unit]
  intro a
  have h1 : (i 1).val < 1 := (i 1).isLt
  have h2 : (i 2).val < 4096 := (i 2).isLt
  match a with
  | ⟨0, _⟩ => show win0_5.index t 0 * 1 ≤ (i 0).val ∧ (i 0).val < win0_5.index t 0 * 1 + 1; rw [hi.1]; omega
  | ⟨1, _⟩ => show win0_5.index t 1 * 1 ≤ (i 1).val ∧ (i 1).val < win0_5.index t 1 * 1 + 1; rw [hi.2.1]; omega
  | ⟨2, _⟩ => show win0_5.index t 2 * 4096 ≤ (i 2).val ∧ (i 2).val < win0_5.index t 2 * 4096 + 4096; rw [hi.2.2]; omega

/-- The region leaves that array. -/
theorem final_array (hB : AllBounded m c) : (dats m 0 c).arrAt 5 cfg0.N = array m c :=
  (dats m 0 c).arrAt_eq_of_cover 5 (array m c) (fun t _ => flushed_eq m c hB t) fun i =>
    ⟨⟨(i 0).val, (i 0).isLt⟩, flush0_5 _, mem_block _ i rfl⟩

/-- The result column's entry `b`. -/
theorem column_array (b : Fin 262144) : shapeCast S262144x1 (array m c) shapeCasts_S64x1x4096_S262144x1 (ix2 b 0) = result m c b := by
  rw [column_apply (array m c) ⟨b.val / 4096, by omega⟩ ⟨b.val % 4096, by omega⟩ b (by show b.val = 4096 * (b.val / 4096) + b.val % 4096; omega)]
  unfold array
  congr 1
  apply Fin.ext
  show 4096 * (b.val / 4096) + b.val % 4096 = b.val
  omega

end Cert.KernelStep

end
-- ==== Proof.KernelRun.lean ====
/-
  What a run of the kernel leaves: its array as one column, the arguments unchanged.
-/
module

public import proofs.«01_k».proof.Proof.KernelArray
public import Idealize.ShloMosaic.Lib.Claim

@[expose] public section

set_option maxRecDepth 16384

noncomputable section

namespace Cert.KernelStep

open Cert.KernelIdeal Cert.KernelIdeal.Gen Idealize.ShloMosaic Idealize.ShloMosaic.TcCoe Idealize.SL.Sem

variable (m : (ℓ : Loc nD τ sig) → Buf (Elt Ideal) ℓ) (c : Dev nD)

/-- The host's last line lays the region's array out as one column. -/
theorem last_line : (Pipeline.afterTail₀ cfgs (dats m) 0 (V0 m) [hostOps1] c main_v20 : FVec Ideal S262144x1 .f32)
    = shapeCast S262144x1 ((dats m 0 c).arrAt 5 cfg0.N : FVec Ideal S64x1x4096 .f32) shapeCasts_S64x1x4096_S262144x1 := by
  have h := Pipeline.withArrays_arr spec0 launch0.win.arr_inj c (V0 m c) (fun w => (dats m 0 c).arrAt w cfg0.N) 5
  rw [← h]
  unfold Pipeline.afterTail₀
  after_reads_simp
  rfl

/-- A run of the kernel from bounded parameters ends with the column in the result. -/
theorem run_kernel (ρ : Dev nD → PrngReg) (hB : ∀ c, AllBounded m c) :
    θ_run defs (onTc (τ := τ) (main (F := Ideal))) ⟨m, fun _ => 0, ρ⟩ fun r => ∀ c : Dev nD,
      r.2.mem ((c.tc : Thread nD τ).loc main_v20) = shapeCast S262144x1 (array m c) shapeCasts_S64x1x4096_S262144x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1 c).2 main_v20 (Pipeline.mem_restRefs_of main_v20 (by decide) (by decide))).trans
      ((last_line m c).trans (congrArg (fun y : FVec Ideal S64x1x4096 .f32 => shapeCast S262144x1 y shapeCasts_S64x1x4096_S262144x1) (final_array m c (hB c)))), h.2 c⟩)
    (θ_run_and (run_main m ρ) (unchanged m ρ))

end Cert.KernelStep

end
-- ==== Proof.RefParts.lean ====
/-
  The parts of one spline step of the reference, over all rows: weights, bin sizes, knots, slopes, the bin's number, and a read at it.
-/
module

public import proofs.«01_k».proof.Proof.Flow
public import proofs.«01_k».proof.Proof.Gen.ReferenceIdeal

@[expose] public section

set_option maxRecDepth 16384

noncomputable section

namespace Cert.RefStep

open Cert.ReferenceIdeal Cert.ReferenceIdeal.Gen Idealize.ShloMosaic Idealize.ShloMosaic.TcCoe

/-- One number per row, along 32 columns. -/
def spread (v : FVec Ideal S262144 .f32) : FVec Ideal S262144x32 .f32 :=
  broadcastInDim S262144x32 ![0, 1] bcast_S262144x1_S262144x32_0_1 (broadcastInDim S262144x1 ![0] bcast_S262144_S262144x1_0 v)

/-- The greatest entry of each row. -/
def peak (u : FVec Ideal S262144x32 .f32) : FVec Ideal S262144 .f32 :=
  maximumf (broadcastInDim S262144 ![] bcast_S_S262144 (constant S_ .f32 0xFF800000#32)) (Host.reduce FloatOps.maximumf u (constant S_ .f32 0xFF800000#32) reducesTo_S262144x32_S262144_d1 h_S_)

/-- The weights of each row, scaled by the greatest. -/
def weights (u : FVec Ideal S262144x32 .f32) : FVec Ideal S262144x32 .f32 := Host.exp (subf u (spread (peak u)))

/-- The bin sizes of each row. -/
def sizes (e : FVec Ideal S262144x32 .f32) : FVec Ideal S262144x32 .f32 :=
  addf (mulf (Host.divf e (spread (Host.reduceAdd e (constant S_ .f32 0x00000000#32) reducesTo_S262144x32_S262144_d1 h_S_))) (broadcastInDim S262144x32 ![] bcast_S_S262144x32 (constant S_ .f32 0x40BFFD61#32))) (broadcastInDim S262144x32 ![] bcast_S_S262144x32 (constant S_ .f32 0x3727C5AC#32))

/-- The running sums of the bin sizes. -/
def running (w : FVec Ideal S262144x32 .f32) : FVec Ideal S262144x32 .f32 :=
  Host.reduceWindowAdd ![1, 32] ![1, 1] ![0, 31] ![0, 0] w (broadcastInDim S_ ![] bcast_S_S_ (constant S_ .f32 0x00000000#32)) reduceWindows_S262144x32_S262144x32_w1s1p0_0_w32s1p31_0 h_S_

/-- The knots of each row. -/
def knots (w : FVec Ideal S262144x32 .f32) : FVec Ideal S262144x33 .f32 :=
  addf (broadcastInDim S262144x33 ![] bcast_S_S262144x33 (constant S_ .f32 0xC0400000#32)) (pad S262144x33 ![0, 1] ![0, 0] ![0, 0] (running w) (sitofp .f32 (constantI S_ 32 0#32)) pads_S262144x32_S262144x33_000_100 h_S_)

/-- The raw slopes moved by the offset. -/
def moved (p : FVec Ideal S262144x97 .f32) : FVec Ideal S262144x33 .f32 :=
  addf (extractStridedSlice S262144x33 ![0, 64] p slices_S262144x97_S262144x33_0_64) (broadcastInDim S262144x33 ![] bcast_S_S262144x33 (constant S_ .f32 0x3F0A933B#32))

/-- The smooth positive part, and the least slope. -/
def slopes (v : FVec Ideal S262144x33 .f32) : FVec Ideal S262144x33 .f32 :=
  addf (select (cmpf .une (subf v (broadcastInDim S262144x33 ![] bcast_S_S262144x33 (constant S_ .f32 0x00000000#32))) (subf v (broadcastInDim S262144x33 ![] bcast_S_S262144x33 (constant S_ .f32 0x00000000#32)))) (addf v (broadcastInDim S262144x33 ![] bcast_S_S262144x33 (constant S_ .f32 0x00000000#32))) (addf (maximumf v (broadcastInDim S262144x33 ![] bcast_S_S262144x33 (constant S_ .f32 0x00000000#32))) (Host.log1p (Host.exp (Host.negf (Host.absf (subf v (broadcastInDim S262144x33 ![] bcast_S_S262144x33 (constant S_ .f32 0x00000000#32))))))))) (broadcastInDim S262144x33 ![] bcast_S_S262144x33 (constant S_ .f32 0x3727C5AC#32))

/-- How many knots are not above the point. -/
def passed (x : FVec Ideal S262144 .f32) (k : FVec Ideal S262144x33 .f32) : IVec S262144 32 :=
  Host.reduce IntOp.addi (extui 32 (cmpf .oge (broadcastInDim S262144x33 ![0, 1] bcast_S262144x1_S262144x33_0_1 (broadcastInDim S262144x1 ![0] bcast_S262144_S262144x1_0 x)) k) natLt_1_32) (constantI S_ 32 0#32) reducesTo_S262144x33_S262144_d1 h_S_

/-- The bin's number, cut to the range of bins. -/
def binNo (x : FVec Ideal S262144 .f32) (k : FVec Ideal S262144x33 .f32) : IVec S262144 32 :=
  minsi (broadcastInDim S262144 ![] bcast_S_S262144 (id (constantI S_ 32 31#32))) (maxsi (broadcastInDim S262144 ![] bcast_S_S262144 (id (constantI S_ 32 0#32))) (subi (passed x k) (broadcastInDim S262144 ![] bcast_S_S262144 (constantI S_ 32 1#32))))

/-- The place to read in each row. -/
def spot (i : IVec S262144 32) : IVec S262144x1x1 32 :=
  shapeCast S262144x1x1 (select (cmpi .slt (broadcastInDim S262144x1 ![0] bcast_S262144_S262144x1_0 i) (broadcastInDim S262144x1 ![] bcast_S_S262144x1 (constantI S_ 32 0#32))) (addi (broadcastInDim S262144x1 ![0] bcast_S262144_S262144x1_0 i) (broadcastInDim S262144x1 ![] bcast_S_S262144x1 (constantI S_ 32 32#32))) (broadcastInDim S262144x1 ![0] bcast_S262144_S262144x1_0 i)) shapeCasts_S262144x1_S262144x1x1

/-- The entry of each row at the place. -/
def picked (a : FVec Ideal S262144x32 .f32) (g : IVec S262144x1x1 32) : FVec Ideal S262144 .f32 :=
  shapeCast S262144 (select (Host.reduce IntOp.andi (andi (cmpi .sge g (broadcastInDim S262144x1x1 ![] bcast_S_S262144x1x1 (constantI S_ 32 0#32))) (cmpi .sle g (broadcastInDim S262144x1x1 ![0, 1, 2] bcast_S1x1x1_S262144x1x1_0_1_2 (broadcastInDim S1x1x1 ![2] bcast_S1_S1x1x1_2 (constantI S1 32 31#32))))) (constantI S_ 1 1#1) reducesTo_S262144x1x1_S262144x1_d2 h_S_) (Host.gather gather_S262144x32_S262144x1x1_S262144x1_n_1_0_0_1_2_11 a g) (broadcastInDim S262144x1 ![] bcast_S_S262144x1 (constant S_ .f32 0x7FC00000#32))) shapeCasts_S262144x1_S262144

/-- Where the point stands in its bin. -/
def ratio (x xk wk : FVec Ideal S262144 .f32) : FVec Ideal S262144 .f32 :=
  minimumf (broadcastInDim S262144 ![] bcast_S_S262144 (id (constant S_ .f32 0x3F800000#32))) (maximumf (broadcastInDim S262144 ![] bcast_S_S262144 (id (constant S_ .f32 0x00000000#32))) (Host.divf (subf x xk) wk))

/-- The ratio times its complement. -/
def cross (z : FVec Ideal S262144 .f32) : FVec Ideal S262144 .f32 := mulf z (subf (broadcastInDim S262144 ![] bcast_S_S262144 (constant S_ .f32 0x3F800000#32)) z)

/-- The rational quadratic inside the interval, the point outside. -/
def formula (x yk hk wk dk dk1 z : FVec Ideal S262144 .f32) : FVec Ideal S262144 .f32 :=
  select (ori (cmpf .olt x (broadcastInDim S262144 ![] bcast_S_S262144 (constant S_ .f32 0xC0400000#32))) (cmpf .ogt x (broadcastInDim S262144 ![] bcast_S_S262144 (constant S_ .f32 0x40400000#32)))) x
    (addf yk (Host.divf (mulf hk (addf (mulf (mulf (Host.divf hk wk) z) z) (mulf dk (cross z)))) (addf (Host.divf hk wk) (mulf (subf (addf dk1 dk) (mulf (broadcastInDim S262144 ![] bcast_S_S262144 (constant S_ .f32 0x40000000#32)) (Host.divf hk wk))) (cross z)))))

/-- The sizes of a group of 32 raw parameters. -/
def binsW (p : FVec Ideal S262144x97 .f32) : FVec Ideal S262144x32 .f32 :=
  sizes (weights (extractStridedSlice S262144x32 ![0, 0] p slices_S262144x97_S262144x32_0_0))

/-- The sizes of the second group. -/
def binsH (p : FVec Ideal S262144x97 .f32) : FVec Ideal S262144x32 .f32 :=
  sizes (weights (extractStridedSlice S262144x32 ![0, 32] p slices_S262144x97_S262144x32_0_32))

/-- One spline step of the reference. -/
def rStep (x : FVec Ideal S262144 .f32) (p : FVec Ideal S262144x97 .f32) : FVec Ideal S262144 .f32 :=
  formula x
    (picked (extractStridedSlice S262144x32 ![0, 0] (knots (binsH p)) slices_S262144x33_S262144x32_0_0) (spot (binNo x (knots (binsW p)))))
    (picked (binsH p) (spot (binNo x (knots (binsW p)))))
    (picked (binsW p) (spot (binNo x (knots (binsW p)))))
    (picked (extractStridedSlice S262144x32 ![0, 0] (slopes (moved p)) slices_S262144x33_S262144x32_0_0) (spot (binNo x (knots (binsW p)))))
    (picked (extractStridedSlice S262144x32 ![0, 1] (slopes (moved p)) slices_S262144x33_S262144x32_0_1) (spot (binNo x (knots (binsW p)))))
    (ratio x (picked (extractStridedSlice S262144x32 ![0, 0] (knots (binsW p)) slices_S262144x33_S262144x32_0_0) (spot (binNo x (knots (binsW p))))) (picked (binsW p) (spot (binNo x (knots (binsW p))))))

end Cert.RefStep

end
-- ==== Proof.RefRead.lean ====
/-
  Three host operations read at one row, at any number of rows: the greatest entry, the running sum, and the count of entries not above a
  point.
-/
module

public import proofs.«01_k».proof.Proof.Flow
public import Idealize.ShloMosaic.Lib.StableHlo.Predicate

@[expose] public section

set_option maxRecDepth 16384

noncomputable section

namespace Cert.RefStep

open Idealize.ShloMosaic Idealize.ShloMosaic.TcCoe

/-- The greatest of finitely many reals, from minus infinity, is real. -/
theorem fold_max_real {ι : Type} (s : Finset ι) (hs : s.Nonempty) (f : ι → EReal) (hf : ∀ i, ∃ v : ℝ, f i = v) : ∃ m : ℝ, s.fold max ⊥ f = m := by
  induction hs using Finset.Nonempty.cons_induction with
  | singleton a =>
    obtain ⟨v, hv⟩ := hf a
    exact ⟨v, by rw [Finset.fold_singleton, hv, max_eq_left bot_le]⟩
  | cons a s ha _ ih =>
    obtain ⟨v, hv⟩ := hf a
    obtain ⟨m, hm⟩ := ih
    rw [Finset.fold_cons, hv, hm]
    rcases le_total (v : EReal) (m : EReal) with h | h
    · exact ⟨m, max_eq_right h⟩
    · exact ⟨v, max_eq_left h⟩

/-- The greatest entry of a row of reals is real. -/
theorem reduce_max_real {n : ℕ} {u : Shape} (x : (⟨2, ![n, 32]⟩ : Shape).Idx → Ideal .f32) (hx : ∀ i, ∃ v : ℝ, x i = (v : EReal)) (init : u.Idx → Ideal .f32)
    (hi : ∀ i, init i = (⊥ : EReal)) (h : (⟨2, ![n, 32]⟩ : Shape).ReducesTo [1] ⟨1, ![n]⟩) (hu : 0 < u.numel) (j : (⟨1, ![n]⟩ : Shape).Idx) :
    ∃ m : ℝ, Host.reduce FloatOps.maximumf x init h hu j = (m : EReal) := by
  have hn : (Finset.univ.filter fun i => h.drop i = j).Nonempty := by
    refine ⟨StableHlo.Predicate.ij (j 0) 0, Finset.mem_filter.2 ⟨Finset.mem_univ _, ?_⟩⟩
    funext b
    have hb : b = 0 := Subsingleton.elim _ _
    subst hb
    exact Fin.ext (Shape.ReducesTo.drop_apply_val h _ 0)
  obtain ⟨m, hm⟩ := fold_max_real _ hn x hx
  refine ⟨m, ?_⟩
  rw [Host.reduce_eq_fold, hi]
  exact hm

/-- A left fold of sums over the first `m` numbers, from zero. -/
theorem foldl_sum (m : ℕ) (g : Fin m → EReal) : (List.finRange m).foldl (fun r n => r + g n) 0 = ∑ n, g n := by
  rw [Fin.sum_univ_def, List.sum_eq_foldl, List.foldl_map]

/-- The window of the entry `j` over a row padded low by 31 holds the entries up to `j`. -/
theorem window_prefix (v : Fin 32 → ℝ) (j : Fin 32) :
    ∑ n ∈ Finset.range 32, (if h : 31 ≤ j.val + n ∧ j.val + n - 31 < 32 then v ⟨j.val + n - 31, h.2⟩ else 0) = ∑ i : Fin 32, if i ≤ j then v i else 0 := by
  have hj := j.isLt
  have hR : (∑ i : Fin 32, if i ≤ j then v i else 0) = ∑ i ∈ Finset.range 32, if h : i ≤ j.val then v ⟨i, by omega⟩ else 0 := by
    rw [← Fin.sum_univ_eq_sum_range (fun i => if h : i ≤ j.val then v ⟨i, by omega⟩ else 0) 32]
    refine Finset.sum_congr rfl fun i _ => ?_
    by_cases hi : i ≤ j
    · rw [if_pos hi, dif_pos (Fin.le_def.mp hi)]
    · rw [if_neg hi, dif_neg (fun h => hi (Fin.le_def.mpr h))]
  have hL : ∑ n ∈ Finset.range 32, (if h : 31 ≤ j.val + n ∧ j.val + n - 31 < 32 then v ⟨j.val + n - 31, h.2⟩ else 0)
      = ∑ n ∈ (Finset.range 32).filter (fun n => 31 ≤ j.val + n), (if h : 31 ≤ j.val + n ∧ j.val + n - 31 < 32 then v ⟨j.val + n - 31, h.2⟩ else 0) := by
    rw [Finset.sum_filter]
    refine Finset.sum_congr rfl fun n _ => ?_
    by_cases h : 31 ≤ j.val + n
    · rw [if_pos h]
    · rw [if_neg h, dif_neg (fun h' => h h'.1)]
  have hR' : ∑ i ∈ Finset.range 32, (if h : i ≤ j.val then v ⟨i, by omega⟩ else 0)
      = ∑ i ∈ (Finset.range 32).filter (fun i => i ≤ j.val), (if h : i ≤ j.val then v ⟨i, by omega⟩ else 0) := by
    rw [Finset.sum_filter]
    refine Finset.sum_congr rfl fun n _ => ?_
    by_cases h : n ≤ j.val
    · rw [if_pos h]
    · rw [if_neg h, dif_neg h]
  rw [hR, hL, hR']
  refine Finset.sum_nbij' (fun n => j.val + n - 31) (fun i => i + 31 - j.val) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn
    simp only [Finset.mem_filter, Finset.mem_range] at hn
    rw [dif_pos (by omega), dif_pos (by omega)]

/-- A window of one row and 32 columns has 32 places. -/
theorem window_numel : (⟨2, ![1, 32]⟩ : Shape).numel = 32 := by decide

/-- Place `m` of the window lies in its one row, at column `m`. -/
theorem window_place (m : Fin (⟨2, ![1, 32]⟩ : Shape).numel) : (⟨2, ![1, 32]⟩ : Shape).rowMajor.symm m = ix2 (0 : Fin 1) (m.cast window_numel) :=
  ((⟨2, ![1, 32]⟩ : Shape).rowMajor.symm_apply_eq).2 (Fin.ext (by
    rw [Shape.rowMajor_val_two]
    show m.val = 0 * 32 + m.val
    omega))

/-- The running sum of a row of reals. -/
theorem running_sum {n : ℕ} (x : (⟨2, ![n, 32]⟩ : Shape).Idx → EReal) (b : Fin n) (v : Fin 32 → ℝ) (hx : ∀ i : Fin 32, x (ix2 b i) = v i)
    (h : (⟨2, ![n, 32]⟩ : Shape).ReduceWindows (![1, 32] : Fin 2 → ℕ) ![1, 1] ![0, 31] ![0, 0] ⟨2, ![n, 32]⟩) (j : Fin 32) :
    Ideal.hostReduceWindowAdd (![1, 32] : Fin 2 → ℕ) ![1, 1] ![0, 31] ![0, 0] h x 0 (ix2 b j) = ((∑ i : Fin 32, if i ≤ j then v i else 0 : ℝ) : EReal) := by
  have hb := b.isLt
  have hj := j.isLt
  unfold Ideal.hostReduceWindowAdd Host.reduceWindow
  refine (foldl_sum _ _).trans ?_
  rw [← window_prefix v j, ← Fin.sum_univ_eq_sum_range (fun m => if h : 31 ≤ j.val + m ∧ j.val + m - 31 < 32 then v ⟨j.val + m - 31, h.2⟩ else 0) 32,
    Spline.coe_sum]
  refine Fintype.sum_equiv (finCongr window_numel) _ _ fun m => ?_
  have hw0 : ((⟨2, ![1, 32]⟩ : Shape).rowMajor.symm m 0).val = 0 := by rw [window_place]; rfl
  have hw1 : ((⟨2, ![1, 32]⟩ : Shape).rowMajor.symm m 1).val = m.val := by rw [window_place]; rfl
  dsimp only
  split
  · next hin =>
    have h1 := hin 1
    change 31 ≤ j.val * 1 + ((⟨2, ![1, 32]⟩ : Shape).rowMajor.symm m 1).val ∧ j.val * 1 + ((⟨2, ![1, 32]⟩ : Shape).rowMajor.symm m 1).val - 31 < 32 at h1
    rw [hw1] at h1
    rw [dif_pos (by simp only [finCongr_apply, Fin.val_cast]; omega)]
    refine (congrArg x (funext fun a => Fin.ext ?_)).trans (hx _)
    match a with
    | ⟨0, _⟩ =>
      show b.val * 1 + ((⟨2, ![1, 32]⟩ : Shape).rowMajor.symm m 0).val - 0 = b.val
      rw [hw0]; omega
    | ⟨1, _⟩ =>
      show j.val * 1 + ((⟨2, ![1, 32]⟩ : Shape).rowMajor.symm m 1).val - 31 = j.val + m.val - 31
      rw [hw1]; omega
  · next hin =>
    rw [dif_neg fun hc => hin fun a => ?_]
    · rfl
    · simp only [finCongr_apply, Fin.val_cast] at hc
      match a with
      | ⟨0, _⟩ =>
        show 0 ≤ b.val * 1 + ((⟨2, ![1, 32]⟩ : Shape).rowMajor.symm m 0).val ∧ b.val * 1 + ((⟨2, ![1, 32]⟩ : Shape).rowMajor.symm m 0).val - 0 < n
        rw [hw0]; omega
      | ⟨1, _⟩ =>
        show 31 ≤ j.val * 1 + ((⟨2, ![1, 32]⟩ : Shape).rowMajor.symm m 1).val ∧ j.val * 1 + ((⟨2, ![1, 32]⟩ : Shape).rowMajor.symm m 1).val - 31 < 32
        rw [hw1]; omega

/-- How many knots are not above a point of bin `K`: the knots up to the bin's left one, and perhaps the last. -/
theorem count_knots (e : Fin 32 → ℝ) (he : ∀ k, 0 < e k) (x : EReal) (K : Fin 32) (hK : Spline.IsBin e x K) :
    min ((Finset.univ.filter fun q : Fin 33 => ((Spline.edge e q.val : ℝ) : EReal) ≤ x).card) 32 = K.val + 1 := by
  have h1 : ∀ q : Fin 32, (((Spline.edge e q.castSucc.val : ℝ) : EReal) ≤ x) ↔ q ≤ K := fun q => hK q
  have h2 : ∑ q : Fin 32, (if q ≤ K then 1 else 0 : ℕ) = K.val + 1 := by
    clear h1 hK
    revert K; decide +kernel
  rw [Finset.card_filter, Fin.sum_univ_castSucc]
  simp only [h1]
  rw [h2]
  by_cases hl : ((Spline.edge e (Fin.last 32).val : ℝ) : EReal) ≤ x
  · have h31 : ((Spline.edge e (31 : Fin 32).val : ℝ) : EReal) ≤ x :=
      le_trans (EReal.coe_le_coe_iff.mpr (Spline.edge_mono e he 31 32 (by decide) le_rfl)) hl
    have := (hK 31).mp h31
    have hk : K.val = 31 := by
      have h := Fin.le_def.mp this
      have := K.isLt
      simp at h; omega
    rw [if_pos hl]; omega
  · rw [if_neg hl]; omega

end Cert.RefStep

end
-- ==== Proof.RefLane.lean ====
/-
  The parts of one spline step of the reference, read at one row: bin sizes, knots, slopes, the bin's number, and the read at it.
-/
module

public import proofs.«01_k».proof.Proof.RefParts
public import proofs.«01_k».proof.Proof.RefRead

@[expose] public section

set_option maxRecDepth 16384

noncomputable section

namespace Cert.RefStep

open Cert.ReferenceIdeal Cert.ReferenceIdeal.Gen Idealize.ShloMosaic Idealize.ShloMosaic.TcCoe

/-- The greater of minus infinity and a reduced row is the reduced row. -/
theorem peak_apply (x : FVec Ideal S_ .f32) (hx : ∀ i, x i = (⊥ : EReal)) (y : FVec Ideal S262144 .f32) (j : S262144.Idx) :
    maximumf (broadcastInDim S262144 ![] bcast_S_S262144 x) y j = y j := by
  show max (x _) (y j) = y j
  rw [hx]
  exact max_eq_right bot_le

/-- The greatest entry of a row is real when every entry is. -/
theorem peak_real (u : FVec Ideal S262144x32 .f32) (hu : ∀ i, ∃ v : ℝ, u i = (v : EReal)) (b : Fin 262144) : ∃ m : ℝ, peak u (ix1 b) = (m : EReal) := by
  obtain ⟨m, hm⟩ := reduce_max_real (n := 262144) u hu (constant S_ .f32 0xFF800000#32) (fun _ => Spline.bits_bot) reducesTo_S262144x32_S262144_d1 h_S_ (ix1 b)
  exact ⟨m, (peak_apply _ (fun _ => Spline.bits_bot) _ _).trans hm⟩

/-- The weights of a row, from the reals its entries are. -/
theorem weights_apply (u : FVec Ideal S262144x32 .f32) (b : Fin 262144) (m : ℝ) (hm : peak u (ix1 b) = (m : EReal)) (k : Fin 32)
    (h0 : u (ix2 b k) ≠ ⊥) (h1 : u (ix2 b k) ≤ ((80 : ℝ) : EReal)) :
    weights u (ix2 b k) = ((Spline.weight (u (ix2 b k)) * Real.exp (-m) : ℝ) : EReal) := by
  obtain ⟨hw, _, v, hv⟩ := Spline.weight_spec (u (ix2 b k)) h0 h1
  pointwise [weights, spread]
  rw [hm, hv, ← EReal.coe_sub, Ideal.exp_coe]
  rw [hv, Ideal.exp_coe, EReal.coe_eq_coe_iff] at hw
  rw [← hw, ← Real.exp_add, sub_eq_add_neg]

/-- The bin sizes of a row, from its weights. -/
theorem sizes_apply (w : FVec Ideal S262144x32 .f32) (b : Fin 262144) (e : Fin 32 → ℝ) (he : ∀ k : Fin 32, w (ix2 b k) = (e k : EReal)) (hs : ∑ k, e k ≠ 0)
    (k : Fin 32) : sizes w (ix2 b k) = (Spline.bin e k : EReal) := by
  pointwise [sizes, spread]
  simp only [he]
  rw [← Spline.coe_sum, Ideal.div_coe hs, Spline.bits_size, Spline.bits_min, ← EReal.coe_mul, ← EReal.coe_mul, ← EReal.coe_add, EReal.coe_eq_coe_iff, Spline.bin]
  ring

/-- The running sums of a row. -/
theorem running_apply (w : FVec Ideal S262144x32 .f32) (b : Fin 262144) (v : Fin 32 → ℝ) (hv : ∀ k : Fin 32, w (ix2 b k) = (v k : EReal)) (j : Fin 32) :
    running w (ix2 b j) = ((∑ i : Fin 32, if i ≤ j then v i else 0 : ℝ) : EReal) := by
  have h := running_sum (n := 262144) w b v hv reduceWindows_S262144x32_S262144x32_w1s1p0_0_w32s1p31_0 j
  rw [← h]
  show Ideal.hostReduceWindowAdd (![1, 32] : Fin 2 → ℕ) ![1, 1] ![0, 31] ![0, 0] reduceWindows_S262144x32_S262144x32_w1s1p0_0_w32s1p31_0 w (Ideal.ofBits .f32 0x00000000#32) (ix2 b j) = _
  have h0 : Ideal.ofBits .f32 0x00000000#32 = 0 := by simp [Ideal.ofBits, Ideal.ieee]
  rw [h0]

/-- The knots of a row, from the weights its bin sizes come from. -/
theorem knots_apply (w : FVec Ideal S262144x32 .f32) (b : Fin 262144) (e : Fin 32 → ℝ) (he : ∀ k : Fin 32, w (ix2 b k) = (Spline.bin e k : EReal)) (k : Fin 33) :
    knots w (ix2 b k) = (Spline.edge e k.val : EReal) := by
  have hk := k.isLt
  pointwise [knots]
  rw [Spline.edge_eq_sum e k.val (by omega), Spline.bits_lo, EReal.coe_add]
  refine congrArg _ ?_
  split
  · next h =>
    rw [running_apply w b _ he]
    refine congrArg _ (Finset.sum_congr rfl fun i _ => ?_)
    have : (i ≤ (⟨k.val - 1, h.2⟩ : Fin 32)) ↔ i.val < k.val := by rw [Fin.le_def]; simp only; omega
    simp only [this]
  · next h =>
    have h0 : k.val = 0 := by omega
    simp [h0, FloatOps.sitofp]

/-- The slopes of a row. -/
theorem slopes_apply (p : FVec Ideal S262144x97 .f32) (b : Fin 262144) (k : Fin 33) :
    slopes (moved p) (ix2 b k) = Spline.slope (p (ix2 b ⟨64 + k.val, by omega⟩)) := by
  pointwise [slopes, moved]
  rw [Spline.bits_min]
  simp only [ne_eq, not_true_eq_false, if_false]
  rfl

/-- One less than a count of at most 33 knots, cut to the range of bins. -/
theorem cut_count (K : Fin 32) (v : BitVec 32) (h1 : v.toNat ≤ 33) (h2 : min v.toNat 32 = K.val + 1) :
    IntOp.minsi 31#32 (IntOp.maxsi 0#32 (IntOp.subi v 1#32)) = BitVec.ofNat 32 K.val := by
  have h : ∀ (K : Fin 32) (c : Fin 34), min c.val 32 = K.val + 1 → IntOp.minsi 31#32 (IntOp.maxsi 0#32 (IntOp.subi (BitVec.ofNat 32 c.val) 1#32)) = BitVec.ofNat 32 K.val := by
    decide +kernel
  have hv : BitVec.ofNat 32 v.toNat = v := (BitVec.ofNat_toNat 32 v).trans (BitVec.setWidth_eq v)
  have := h K ⟨v.toNat, Nat.lt_succ_of_le h1⟩ h2
  rwa [hv] at this

/-- The bin's number of a row, at a point not left of the interval. -/
theorem binNo_apply (x : FVec Ideal S262144 .f32) (k : FVec Ideal S262144x33 .f32) (b : Fin 262144) (e : Fin 32 → ℝ) (he : ∀ k, 0 < e k)
    (hk : ∀ q : Fin 33, k (ix2 b q) = (Spline.edge e q.val : EReal)) (K : Fin 32) (hK : Spline.IsBin e (x (ix1 b)) K) :
    binNo x k (ix1 b) = BitVec.ofNat 32 K.val := by
  have hp : (passed x k (ix1 b)).toNat = (Finset.univ.filter fun q : Fin 33 => ((Spline.edge e q.val : ℝ) : EReal) ≤ x (ix1 b)).card := by
    refine (StableHlo.Predicate.toNat_reduce_count_cols (n := 262144) (m := 33) (by decide) _ natLt_1_32 reducesTo_S262144x33_S262144_d1 h_S_ (ix1 b)).trans ?_
    refine congrArg Finset.card (Finset.filter_congr fun q _ => ?_)
    have hm : cmpf .oge (broadcastInDim S262144x33 ![0, 1] bcast_S262144x1_S262144x33_0_1 (broadcastInDim S262144x1 ![0] bcast_S262144_S262144x1_0 x)) k (ix2 b q)
        = BitVec.ofBool (decide (((Spline.edge e q.val : ℝ) : EReal) ≤ x (ix1 b))) := by
      rw [← hk q]; pointwise
    have hm' : cmpf .oge (broadcastInDim S262144x33 ![0, 1] bcast_S262144x1_S262144x33_0_1 (broadcastInDim S262144x1 ![0] bcast_S262144_S262144x1_0 x)) k (StableHlo.Predicate.ij b q)
        = BitVec.ofBool (decide (((Spline.edge e q.val : ℝ) : EReal) ≤ x (ix1 b))) := hm
    refine Iff.trans (Eq.congr_left hm') ?_
    by_cases h : ((Spline.edge e q.val : ℝ) : EReal) ≤ x (ix1 b) <;> simp [h]
  have hc := count_knots e he _ K hK
  rw [← hp] at hc
  have hle : (passed x k (ix1 b)).toNat ≤ 33 := by
    rw [hp]; exact (Finset.card_le_univ _).trans (by simp)
  have hr : binNo x k (ix1 b) = IntOp.minsi 31#32 (IntOp.maxsi 0#32 (IntOp.subi (passed x k (ix1 b)) 1#32)) := rfl
  rw [hr]
  generalize passed x k (ix1 b) = v at hle hc
  exact cut_count K v hle hc

/-- The place to read, from a bin's number. -/
theorem spot_apply (i : IVec S262144 32) (b : Fin 262144) (K : Fin 32) (hi : i (ix1 b) = BitVec.ofNat 32 K.val) : spot i (ix3 b 0 0) = BitVec.ofNat 32 K.val := by
  pointwise [spot]
  rw [hi]
  clear hi
  revert K; decide +kernel

/-- The gather reads the row's entry at the bin's number. -/
theorem gather_apply (a : FVec Ideal S262144x32 .f32) (g : IVec S262144x1x1 32) (b : Fin 262144) (K : Fin 32) (hg : g (ix3 b 0 0) = BitVec.ofNat 32 K.val) :
    Host.gather gather_S262144x32_S262144x1x1_S262144x1_n_1_0_0_1_2_11 a g (ix2 b 0) = a (ix2 b K) := by
  have hs : ∀ h, GatherDims.siIdx gather_S262144x32_S262144x1x1_S262144x1_n_1_0_0_1_2_11 (ix2 b 0) ⟨0, h⟩ = ix3 b 0 0 := by
    intro h
    funext a
    match a with
    | ⟨0, _⟩ => rfl
    | ⟨1, _⟩ => rfl
    | ⟨2, _⟩ => rfl
  refine congrArg a (funext fun c => Fin.ext ?_)
  match c with
  | ⟨0, _⟩ =>
    show GatherDims.start gather_S262144x32_S262144x1x1_S262144x1_n_1_0_0_1_2_11 (ix2 b 0) g 0
      + GatherDims.batchCoord gather_S262144x32_S262144x1x1_S262144x1_n_1_0_0_1_2_11 (ix2 b 0) 0
      + GatherDims.offCoord gather_S262144x32_S262144x1x1_S262144x1_n_1_0_0_1_2_11 (ix2 b 0) 0 = b.val
    have hb : (0 : Fin 2) ∈ gather_S262144x32_S262144x1x1_S262144x1_n_1_0_0_1_2_11.operandBatchingDims := List.mem_singleton.2 rfl
    rw [GatherDims.start_batching _ _ _ _ hb, GatherDims.offCoord_eq_zero _ _ _ (fun h => ((GatherDims.mem_sKept _ _).1 h).2 hb), Nat.zero_add, Nat.add_zero]
    rfl
  | ⟨1, _⟩ =>
    show min (g (GatherDims.siIdx gather_S262144x32_S262144x1x1_S262144x1_n_1_0_0_1_2_11 (ix2 b 0) ⟨0, by decide⟩)).toInt.toNat 31 + 0 + 0 = K.val
    rw [hs, hg]
    clear hg
    revert K; decide +kernel

/-- The entry of a row at the bin's number. -/
theorem picked_apply (a : FVec Ideal S262144x32 .f32) (g : IVec S262144x1x1 32) (b : Fin 262144) (K : Fin 32) (hg : g (ix3 b 0 0) = BitVec.ofNat 32 K.val) :
    picked a g (ix1 b) = a (ix2 b K) := by
  have h := gather_apply a g b K hg
  have hm : IntOp.andi 1#1 (IntOp.andi (IntOp.cmpi .sge (BitVec.ofNat 32 K.val) 0#32) (IntOp.cmpi .sle (BitVec.ofNat 32 K.val) 31#32)) = 1#1 := by
    clear hg h
    revert K; decide +kernel
  pointwise [picked]
  rw [h, Finset.univ_unique, Finset.fold_singleton]
  have hd : (default : Fin 1) = 0 := rfl
  rw [hd, hg]
  refine (congrArg (fun c => Scalar.select c (a (ix2 b K)) _) (?_ : _ = 1#1)).trans rfl
  clear hg h hm
  revert K; decide +kernel

/-- Where the point stands in its bin. -/
theorem ratio_apply (x xk wk : FVec Ideal S262144 .f32) (b : Fin 262144) : ratio x xk wk (ix1 b) = Spline.place (x (ix1 b)) (xk (ix1 b)) (wk (ix1 b)) := by
  unfold ratio
  simp only [id]
  pointwise
  rfl

/-- The formula of one step at a row. -/
theorem formula_apply (x yk hk wk dk dk1 z : FVec Ideal S262144 .f32) (b : Fin 262144) :
    formula x yk hk wk dk dk1 z (ix1 b) = if x (ix1 b) < ((-3 : ℝ) : EReal) ∨ ((3 : ℝ) : EReal) < x (ix1 b) then x (ix1 b)
      else Spline.quad (yk (ix1 b)) (hk (ix1 b)) (dk (ix1 b)) (dk1 (ix1 b)) (Ideal.div (hk (ix1 b)) (wk (ix1 b))) (z (ix1 b)) := by
  pointwise [formula, cross]
  rw [Spline.bits_lo, Spline.bits_hi, Spline.bits_two, Spline.select_or]
  rfl

end Cert.RefStep

end
-- ==== Proof.RefStep.lean ====
/-
  One spline step of the reference at one row.
-/
module

public import proofs.«01_k».proof.Proof.RefLane

@[expose] public section

set_option maxRecDepth 16384

noncomputable section

namespace Cert.RefStep

open Cert.ReferenceIdeal Cert.ReferenceIdeal.Gen Idealize.ShloMosaic Idealize.ShloMosaic.TcCoe

/-- The bin sizes of a row, from its raw parameters. -/
theorem sizes_weights (u : FVec Ideal S262144x32 .f32) (hu : ∀ (b : Fin 262144) (k : Fin 32), u (ix2 b k) ≠ ⊥ ∧ u (ix2 b k) ≤ ((80 : ℝ) : EReal)) (b : Fin 262144) (k : Fin 32) :
    sizes (weights u) (ix2 b k) = (Spline.bin (fun k => Spline.weight (u (ix2 b k))) k : EReal) := by
  have hreal : ∀ i, ∃ v : ℝ, u i = (v : EReal) := by
    intro i
    have hi : i = ix2 (i 0) (i 1) := (StableHlo.Predicate.ij_eta i).symm
    obtain ⟨h0, h1⟩ := hu (i 0) (i 1)
    rw [hi]
    exact (Spline.weight_spec _ h0 h1).2.2
  obtain ⟨m, hm⟩ := peak_real u hreal b
  have hw := fun k => weights_apply u b m hm k (hu b k).1 (hu b k).2
  have hpos : ∀ k, 0 < Spline.weight (u (ix2 b k)) * Real.exp (-m) := fun k => mul_pos (Spline.weight_spec _ (hu b k).1 (hu b k).2).2.1 (Real.exp_pos _)
  have hs : ∑ k, Spline.weight (u (ix2 b k)) * Real.exp (-m) ≠ 0 := (Finset.sum_pos (fun k _ => hpos k) ⟨0, Finset.mem_univ _⟩).ne'
  rw [sizes_apply (weights u) b _ hw hs k, Spline.bin_scale _ _ (Real.exp_pos _).ne']

/-- The widths of a row. -/
theorem binsW_apply (p : FVec Ideal S262144x97 .f32) (hp : ∀ b : Fin 262144, Spline.Bounded fun j => p (ix2 b j)) (b : Fin 262144) (k : Fin 32) :
    binsW p (ix2 b k) = (Spline.bin (fun k => Spline.weight (p (ix2 b ⟨k.val, by omega⟩))) k : EReal) := by
  have hx : ∀ (b : Fin 262144) (k : Fin 32), extractStridedSlice S262144x32 ![0, 0] p slices_S262144x97_S262144x32_0_0 (ix2 b k) = p (ix2 b ⟨k.val, by omega⟩) := by
    intro b k; pointwise
  have h := sizes_weights (extractStridedSlice S262144x32 ![0, 0] p slices_S262144x97_S262144x32_0_0) (fun b k => by rw [hx]; exact hp b ⟨k.val, by omega⟩ (by simp only; omega)) b k
  simp only [hx] at h
  exact h

/-- The heights of a row. -/
theorem binsH_apply (p : FVec Ideal S262144x97 .f32) (hp : ∀ b : Fin 262144, Spline.Bounded fun j => p (ix2 b j)) (b : Fin 262144) (k : Fin 32) :
    binsH p (ix2 b k) = (Spline.bin (fun k => Spline.weight (p (ix2 b ⟨32 + k.val, by omega⟩))) k : EReal) := by
  have hx : ∀ (b : Fin 262144) (k : Fin 32), extractStridedSlice S262144x32 ![0, 32] p slices_S262144x97_S262144x32_0_32 (ix2 b k) = p (ix2 b ⟨32 + k.val, by omega⟩) := by
    intro b k; pointwise
  have h := sizes_weights (extractStridedSlice S262144x32 ![0, 32] p slices_S262144x97_S262144x32_0_32) (fun b k => by rw [hx]; exact hp b ⟨32 + k.val, by omega⟩ (by simp only; omega)) b k
  simp only [hx] at h
  exact h

/-- The first 32 columns of 33. -/
theorem left_apply (a : FVec Ideal S262144x33 .f32) (b : Fin 262144) (k : Fin 32) :
    extractStridedSlice S262144x32 ![0, 0] a slices_S262144x33_S262144x32_0_0 (ix2 b k) = a (ix2 b k.castSucc) := by
  pointwise
  rfl

/-- The last 32 columns of 33. -/
theorem right_apply (a : FVec Ideal S262144x33 .f32) (b : Fin 262144) (k : Fin 32) :
    extractStridedSlice S262144x32 ![0, 1] a slices_S262144x33_S262144x32_0_1 (ix2 b k) = a (ix2 b k.succ) := by
  pointwise
  exact congrArg (fun q => a (ix2 b q)) (Fin.ext (Nat.add_comm 1 k.val))

/-- One spline step of the reference, at a row, when every row's parameters are bounded. -/
theorem rStep_apply (x : FVec Ideal S262144 .f32) (p : FVec Ideal S262144x97 .f32) (hp : ∀ b : Fin 262144, Spline.Bounded fun j => p (ix2 b j)) (b : Fin 262144) :
    rStep x p (ix1 b) = Spline.stepAt (x (ix1 b)) fun j => p (ix2 b j) := by
  unfold rStep
  rw [formula_apply, Spline.stepAt]
  by_cases hx : x (ix1 b) < ((-3 : ℝ) : EReal) ∨ ((3 : ℝ) : EReal) < x (ix1 b)
  · rw [if_pos hx, if_pos hx]
  rw [if_neg hx, if_neg hx]
  have hpos : ∀ k : Fin 32, 0 < Spline.weight (p (ix2 b ⟨k.val, by omega⟩)) := fun k => by
    obtain ⟨h0, h1⟩ := hp b ⟨k.val, by omega⟩ (by simp only; omega)
    exact (Spline.weight_spec _ h0 h1).2.1
  have hK := Spline.binOf_spec _ hpos (x (ix1 b)) fun h => hx (Or.inl h)
  generalize Spline.binOf (fun k : Fin 32 => Spline.weight (p (ix2 b ⟨k.val, by omega⟩))) (x (ix1 b)) = K at hK ⊢
  have hn := spot_apply _ b K (binNo_apply x (knots (binsW p)) b _ hpos (knots_apply _ b _ (binsW_apply p hp b)) K hK)
  rw [ratio_apply]
  simp only [picked_apply _ _ b K hn]
  rw [left_apply, left_apply, left_apply, right_apply, binsW_apply p hp, binsH_apply p hp, knots_apply _ b _ (binsW_apply p hp b),
    knots_apply _ b _ (binsH_apply p hp b), slopes_apply, slopes_apply]
  rfl

end Cert.RefStep

end
-- ==== Proof.RefRow.lean ====
/-
  The reference around its spline steps, over all rows and at one row: the two layers, the raw parameters, the affine maps and the normal
  distribution function.
-/
module

public import proofs.«01_k».proof.Proof.RefStep
public import Idealize.ShloMosaic.PureOps.Ideal.Laws

@[expose] public section

set_option maxRecDepth 16384

noncomputable section

namespace Cert.RefStep

open Cert.ReferenceIdeal Cert.ReferenceIdeal.Gen Idealize.ShloMosaic Idealize.ShloMosaic.TcCoe

/-- The first layer. -/
def layer1 (a0 : FVec Ideal S262144x64 .f32) (a2 : FVec Ideal S64x256 .f32) (a3 : FVec Ideal S256 .f32) : FVec Ideal S262144x256 .f32 :=
  maximumf (addf (Host.dotGeneral dot_S262144x64_S64x256_S262144x256_1_0_0_1_n_n none a0 a2) (broadcastInDim S262144x256 ![0, 1] bcast_S1x256_S262144x256_0_1 (broadcastInDim S1x256 ![1] bcast_S256_S1x256_1 a3))) (broadcastInDim S262144x256 ![] bcast_S_S262144x256 (constant S_ .f32 0x00000000#32))

/-- The second layer. -/
def layer2 (h : FVec Ideal S262144x256 .f32) (a4 : FVec Ideal S256x256 .f32) (a5 : FVec Ideal S256 .f32) : FVec Ideal S262144x256 .f32 :=
  maximumf (addf (Host.dotGeneral dot_S262144x256_S256x256_S262144x256_1_0_0_1_n_n none h a4) (broadcastInDim S262144x256 ![0, 1] bcast_S1x256_S262144x256_0_1 (broadcastInDim S1x256 ![1] bcast_S256_S1x256_1 a5))) (broadcastInDim S262144x256 ![] bcast_S_S262144x256 (constant S_ .f32 0x00000000#32))

/-- The parameters of the affine maps. -/
def shifts (h : FVec Ideal S262144x256 .f32) (a8 : FVec Ideal S256x4 .f32) (a9 : FVec Ideal S4 .f32) : FVec Ideal S262144x4 .f32 :=
  addf (Host.dotGeneral dot_S262144x256_S256x4_S262144x4_1_0_0_1_n_n none h a8) (broadcastInDim S262144x4 ![0, 1] bcast_S1x4_S262144x4_0_1 (broadcastInDim S1x4 ![1] bcast_S4_S1x4_1 a9))

/-- The raw parameters of one spline, from its own matrix and bias. -/
def raw (h : FVec Ideal S262144x256 .f32) (w : FVec Ideal S1x256x97 .f32) (v : FVec Ideal S1x97 .f32) : FVec Ideal S262144x97 .f32 :=
  addf (Host.dotGeneral dot_S262144x256_S256x97_S262144x97_1_0_0_1_n_n none h (shapeCast S256x97 w shapeCasts_S1x256x97_S256x97)) (broadcastInDim S262144x97 ![0, 1] bcast_S1x97_S262144x97_0_1 (broadcastInDim S1x97 ![1] bcast_S97_S1x97_1 (shapeCast S97 v shapeCasts_S1x97_S97)))

/-- The first affine map. -/
def entry (a1 : FVec Ideal S262144x1 .f32) (s : FVec Ideal S262144x4 .f32) : FVec Ideal S262144 .f32 :=
  shapeCast S262144 (addf (mulf a1 (Host.exp (extractStridedSlice S262144x1 ![0, 1] s slices_S262144x4_S262144x1_0_1))) (extractStridedSlice S262144x1 ![0, 0] s slices_S262144x4_S262144x1_0_0)) shapeCasts_S262144x1_S262144

/-- The second affine map, standardized and scaled for the error function. -/
def exit (x : FVec Ideal S262144 .f32) (s : FVec Ideal S262144x4 .f32) : FVec Ideal S262144x1 .f32 :=
  mulf (Host.divf (subf (addf (mulf (broadcastInDim S262144x1 ![0] bcast_S262144_S262144x1_0 x) (Host.exp (extractStridedSlice S262144x1 ![0, 3] s slices_S262144x4_S262144x1_0_3))) (extractStridedSlice S262144x1 ![0, 2] s slices_S262144x4_S262144x1_0_2)) (broadcastInDim S262144x1 ![] bcast_S_S262144x1 (constant S_ .f32 0x00000000#32))) (broadcastInDim S262144x1 ![] bcast_S_S262144x1 (constant S_ .f32 0x3F800000#32))) (broadcastInDim S262144x1 ![] bcast_S_S262144x1 (constant S_ .f32 0x3F3504F3#32))

/-- The normal distribution function by its three branches. -/
def cdf (w : FVec Ideal S262144x1 .f32) : FVec Ideal S262144x1 .f32 :=
  mulf (broadcastInDim S262144x1 ![] bcast_S_S262144x1 (constant S_ .f32 0x3F000000#32)) (select (cmpf .olt (Host.absf w) (broadcastInDim S262144x1 ![] bcast_S_S262144x1 (constant S_ .f32 0x3F3504F3#32))) (addf (broadcastInDim S262144x1 ![] bcast_S_S262144x1 (constant S_ .f32 0x3F800000#32)) (Host.erf w)) (select (cmpf .ogt w (broadcastInDim S262144x1 ![] bcast_S_S262144x1 (constant S_ .f32 0x00000000#32))) (subf (broadcastInDim S262144x1 ![] bcast_S_S262144x1 (constant S_ .f32 0x40000000#32)) (Host.erfc (Host.absf w))) (Host.erfc (Host.absf w))))

/-- The first layer at a row, with no bias. -/
theorem layer1_apply (a0 : FVec Ideal S262144x64 .f32) (a2 : FVec Ideal S64x256 .f32) (a3 : FVec Ideal S256 .f32) (h3 : ∀ i, a3 i = (0 : EReal)) (b : Fin 262144) (j : Fin 256) :
    layer1 a0 a2 a3 (ix2 b j) = Spline.hidden (fun k => a0 (ix2 b k)) (fun k j => a2 (ix2 k j)) j := by
  pointwise [layer1]
  simp only [h3, add_zero]
  rfl

/-- The second layer at a row, with no bias. -/
theorem layer2_apply (h : FVec Ideal S262144x256 .f32) (a4 : FVec Ideal S256x256 .f32) (a5 : FVec Ideal S256 .f32) (h5 : ∀ i, a5 i = (0 : EReal)) (b : Fin 262144) (j : Fin 256) :
    layer2 h a4 a5 (ix2 b j) = max (∑ i : Fin 256, h (ix2 b i) * a4 (ix2 i j)) 0 := by
  pointwise [layer2]
  simp only [h5, add_zero]

/-- The parameters of the affine maps at a row, with no bias. -/
theorem shifts_apply (h : FVec Ideal S262144x256 .f32) (a8 : FVec Ideal S256x4 .f32) (a9 : FVec Ideal S4 .f32) (h9 : ∀ i, a9 i = (0 : EReal)) (b : Fin 262144) (j : Fin 4) :
    shifts h a8 a9 (ix2 b j) = ∑ i : Fin 256, h (ix2 b i) * a8 (ix2 i j) := by
  pointwise [shifts]
  simp only [h9, add_zero]

/-- The raw parameters of one spline at a row, with no bias. -/
theorem raw_apply (h : FVec Ideal S262144x256 .f32) (w : FVec Ideal S1x256x97 .f32) (v : FVec Ideal S1x97 .f32) (hv : ∀ i, v i = (0 : EReal)) (b : Fin 262144) (j : Fin 97) :
    raw h w v (ix2 b j) = ∑ i : Fin 256, h (ix2 b i) * w (ix3 0 i j) := by
  pointwise [raw]
  simp only [hv, add_zero]

/-- The first affine map at a row. -/
theorem entry_apply (a1 : FVec Ideal S262144x1 .f32) (s : FVec Ideal S262144x4 .f32) (b : Fin 262144) :
    entry a1 s (ix1 b) = a1 (ix2 b 0) * Ideal.exp (s (ix2 b 1)) + s (ix2 b 0) := by
  pointwise [entry]

/-- The second affine map at a row. -/
theorem exit_apply (x : FVec Ideal S262144 .f32) (s : FVec Ideal S262144x4 .f32) (b : Fin 262144) :
    exit x s (ix2 b 0) = (x (ix1 b) * Ideal.exp (s (ix2 b 3)) + s (ix2 b 2)) * Ideal.ofBits .f32 0x3F3504F3#32 := by
  have h1 : ∀ v : EReal, Ideal.div v 1 = v := fun v => by
    have := Ideal.div_coe (y := 1) one_ne_zero v
    rwa [EReal.coe_one, one_div, inv_one, EReal.coe_one, mul_one] at this
  pointwise [exit]
  simp only [h1, sub_zero]

/-- The error function takes real values. -/
theorem erf_real (w : EReal) : ∃ v : ℝ, Ideal.erf w = (v : EReal) := by
  induction w with
  | bot => exact ⟨-1, by rw [Ideal.erf_bot]; rfl⟩
  | top => exact ⟨1, by rw [Ideal.erf_top]; rfl⟩
  | coe v => exact ⟨_, Ideal.erf_coe v⟩

/-- The three branches of the distribution function are one. -/
theorem branches (w c : EReal) : (if max w (-w) < c then 1 + Ideal.erf w else if 0 < w then ((2 : ℝ) : EReal) - Ideal.erfc (max w (-w)) else Ideal.erfc (max w (-w))) = 1 + Ideal.erf w := by
  split
  · rfl
  split
  · next h =>
    have hm : max w (-w) = w := max_eq_left ((EReal.neg_le_zero.mpr h.le).trans h.le)
    obtain ⟨v, hv⟩ := erf_real w
    rw [hm, Ideal.erfc, hv, ← EReal.coe_one, ← EReal.coe_sub, ← EReal.coe_sub, ← EReal.coe_add, EReal.coe_eq_coe_iff]
    ring
  · next h =>
    have hw : w ≤ 0 := not_lt.mp h
    have hm : max w (-w) = -w := max_eq_right (hw.trans (EReal.neg_nonneg.mpr hw))
    rw [hm, Ideal.erfc_neg]

/-- The normal distribution function at a row. -/
theorem cdf_apply (w : FVec Ideal S262144x1 .f32) (b : Fin 262144) : cdf w (ix2 b 0) = Ideal.ofBits .f32 0x3F000000#32 * (1 + Ideal.erf (w (ix2 b 0))) := by
  rw [← branches (w (ix2 b 0)) (Ideal.ofBits .f32 0x3F3504F3#32)]
  pointwise [cdf]
  rw [Spline.bits_two]
  refine congrArg _ ?_
  rfl

/-- Spline `s`'s matrix, out of the four. -/
theorem matrix_apply (o : ℕ) (h : S4x256x97.Slices ![o, 0, 0] S1x256x97) (s : Fin 4) (hs : o = s.val) (a6 : FVec Ideal S4x256x97 .f32) (i : Fin 256) (j : Fin 97) :
    extractStridedSlice S1x256x97 ![o, 0, 0] a6 h (ix3 0 i j) = a6 (ix3 s i j) := by
  subst hs
  refine congrArg a6 (funext fun a => Fin.ext ?_)
  match a with
  | ⟨0, _⟩ => exact Nat.add_zero _
  | ⟨1, _⟩ => exact Nat.zero_add _
  | ⟨2, _⟩ => exact Nat.zero_add _

/-- The raw parameters of one spline, its matrix and bias cut from the four. -/
theorem raw_params (o : ℕ) (h6 : S4x256x97.Slices ![o, 0, 0] S1x256x97) (h7 : S4x97.Slices ![o, 0] S1x97) (s : Fin 4) (hs : o = s.val)
    (a0 : FVec Ideal S262144x64 .f32) (a2 : FVec Ideal S64x256 .f32) (a3 : FVec Ideal S256 .f32) (a4 : FVec Ideal S256x256 .f32) (a5 : FVec Ideal S256 .f32)
    (a6 : FVec Ideal S4x256x97 .f32) (a7 : FVec Ideal S4x97 .f32) (e3 : ∀ i, a3 i = (0 : EReal)) (e5 : ∀ i, a5 i = (0 : EReal)) (e7 : ∀ i, a7 i = (0 : EReal))
    (b : Fin 262144) (j : Fin 97) :
    raw (layer2 (layer1 a0 a2 a3) a4 a5) (extractStridedSlice S1x256x97 ![o, 0, 0] a6 h6) (extractStridedSlice S1x97 ![o, 0] a7 h7) (ix2 b j)
      = Spline.params (fun k => a0 (ix2 b k)) (fun k j => a2 (ix2 k j)) (fun j i => a4 (ix2 j i)) (fun s i j => a6 (ix3 s i j)) s j := by
  refine (raw_apply _ _ (extractStridedSlice S1x97 ![o, 0] a7 h7) (fun _ => e7 _) b j).trans ?_
  refine Finset.sum_congr rfl fun i _ => ?_
  rw [layer2_apply _ _ _ e5, matrix_apply o h6 s hs]
  simp only [layer1_apply _ _ _ e3]
  rfl

/-- The flow of the reference, from its four groups of raw parameters and its shifts. -/
def flow (a1 : FVec Ideal S262144x1 .f32) (s : FVec Ideal S262144x4 .f32) (p3 p2 p1 p0 : FVec Ideal S262144x97 .f32) : FVec Ideal S262144x1 .f32 :=
  cdf (exit (rStep (rStep (rStep (rStep (entry a1 s) p3) p2) p1) p0) s)

/-- The reference's whole computation, of its ten arguments. -/
def whole (a0 : FVec Ideal S262144x64 .f32) (a1 : FVec Ideal S262144x1 .f32) (a2 : FVec Ideal S64x256 .f32) (a3 : FVec Ideal S256 .f32) (a4 : FVec Ideal S256x256 .f32)
    (a5 : FVec Ideal S256 .f32) (a6 : FVec Ideal S4x256x97 .f32) (a7 : FVec Ideal S4x97 .f32) (a8 : FVec Ideal S256x4 .f32) (a9 : FVec Ideal S4 .f32) : FVec Ideal S262144x1 .f32 :=
  flow a1 (shifts (layer2 (layer1 a0 a2 a3) a4 a5) a8 a9)
    (raw (layer2 (layer1 a0 a2 a3) a4 a5) (extractStridedSlice S1x256x97 ![3, 0, 0] a6 slices_S4x256x97_S1x256x97_3_0_0) (extractStridedSlice S1x97 ![3, 0] a7 slices_S4x97_S1x97_3_0))
    (raw (layer2 (layer1 a0 a2 a3) a4 a5) (extractStridedSlice S1x256x97 ![2, 0, 0] a6 slices_S4x256x97_S1x256x97_2_0_0) (extractStridedSlice S1x97 ![2, 0] a7 slices_S4x97_S1x97_2_0))
    (raw (layer2 (layer1 a0 a2 a3) a4 a5) (extractStridedSlice S1x256x97 ![1, 0, 0] a6 slices_S4x256x97_S1x256x97_1_0_0) (extractStridedSlice S1x97 ![1, 0] a7 slices_S4x97_S1x97_1_0))
    (raw (layer2 (layer1 a0 a2 a3) a4 a5) (extractStridedSlice S1x256x97 ![0, 0, 0] a6 slices_S4x256x97_S1x256x97_0_0_0) (extractStridedSlice S1x97 ![0, 0] a7 slices_S4x97_S1x97_0_0))

/-- One row of the reference, with no bias and with bounded parameters, is one row of the flow. -/
theorem whole_apply (a0 : FVec Ideal S262144x64 .f32) (a1 : FVec Ideal S262144x1 .f32) (a2 : FVec Ideal S64x256 .f32) (a3 : FVec Ideal S256 .f32) (a4 : FVec Ideal S256x256 .f32)
    (a5 : FVec Ideal S256 .f32) (a6 : FVec Ideal S4x256x97 .f32) (a7 : FVec Ideal S4x97 .f32) (a8 : FVec Ideal S256x4 .f32) (a9 : FVec Ideal S4 .f32)
    (e3 : ∀ i, a3 i = (0 : EReal)) (e5 : ∀ i, a5 i = (0 : EReal)) (e7 : ∀ i, a7 i = (0 : EReal)) (e9 : ∀ i, a9 i = (0 : EReal))
    (hB : ∀ (b : Fin 262144) (s : Fin 4), Spline.Bounded (Spline.params (fun k => a0 (ix2 b k)) (fun k j => a2 (ix2 k j)) (fun j i => a4 (ix2 j i)) (fun s i j => a6 (ix3 s i j)) s))
    (b : Fin 262144) :
    whole a0 a1 a2 a3 a4 a5 a6 a7 a8 a9 (ix2 b 0)
      = Spline.answer (fun k => a0 (ix2 b k)) (fun k j => a2 (ix2 k j)) (fun j i => a4 (ix2 j i)) (fun s i j => a6 (ix3 s i j)) (fun i j => a8 (ix2 i j)) (a1 (ix2 b 0)) := by
  have hp := fun o h6 h7 s hs b => funext (raw_params o h6 h7 s hs a0 a2 a3 a4 a5 a6 a7 e3 e5 e7 b)
  have hs : ∀ j : Fin 4, shifts (layer2 (layer1 a0 a2 a3) a4 a5) a8 a9 (ix2 b j)
      = Spline.affine (fun k => a0 (ix2 b k)) (fun k j => a2 (ix2 k j)) (fun j i => a4 (ix2 j i)) (fun i j => a8 (ix2 i j)) j := by
    intro j
    rw [shifts_apply _ _ _ e9]
    refine Finset.sum_congr rfl fun i _ => ?_
    rw [layer2_apply _ _ _ e5]
    simp only [layer1_apply _ _ _ e3]
    rfl
  unfold whole flow
  rw [cdf_apply, exit_apply,
    rStep_apply _ _ (fun b => by rw [hp 0 _ _ 0 rfl]; exact hB b 0), rStep_apply _ _ (fun b => by rw [hp 1 _ _ 1 rfl]; exact hB b 1),
    rStep_apply _ _ (fun b => by rw [hp 2 _ _ 2 rfl]; exact hB b 2), rStep_apply _ _ (fun b => by rw [hp 3 _ _ 3 rfl]; exact hB b 3), entry_apply,
    hs 0, hs 1, hs 2, hs 3, hp 0 _ _ 0 rfl, hp 1 _ _ 1 rfl, hp 2 _ _ 2 rfl, hp 3 _ _ 3 rfl]
  rfl

end Cert.RefStep

end
-- ==== Proof.RefRun.lean ====
/-
  What a run of the reference leaves: its whole computation of the arguments, the arguments unchanged.
-/
module

public import proofs.«01_k».proof.Proof.RefRow
public import proofs.«01_k».proof.Proof.Gen.ReferenceIdeal.Run

@[expose] public section

set_option maxRecDepth 16384

noncomputable section

namespace Cert.RefStep

open Cert.ReferenceIdeal Cert.ReferenceIdeal.Gen Cert.ReferenceIdeal.Value Idealize.ShloMosaic Idealize.ShloMosaic.TcCoe Idealize.SL.Sem

variable (V : Valuation τ sig (Elt Ideal))

/-- The first spline step's named value. -/
theorem value_step3 : (res_main_v129 V : FVec Ideal S262144 .f32) = rStep (res_main_v19 V) (res_main_v27 V) := rfl

/-- The second spline step's named value. -/
theorem value_step2 : (res_main_v239 V : FVec Ideal S262144 .f32) = rStep (res_main_v129 V) (res_main_v137 V) := rfl

/-- The third spline step's named value. -/
theorem value_step1 : (res_main_v349 V : FVec Ideal S262144 .f32) = rStep (res_main_v239 V) (res_main_v247 V) := rfl

/-- The fourth step and the second affine map. -/
theorem value_exit : (res_main_v471 V : FVec Ideal S262144x1 .f32) = exit (rStep (res_main_v349 V) (res_main_v357 V)) (res_main_v13 V) := rfl

/-- The result's named values make up the whole computation. -/
theorem value_whole : cdf (res_main_v471 V)
    = whole (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [value_exit, value_step1, value_step2, value_step3]
  rfl

set_option maxHeartbeats 4000000 in
/-- A run of the reference ends with the whole computation of the arguments in the result. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v487) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (value_whole (StableHlo.launchContents m c)), (h c).2⟩) (Value.run (F := Ideal) m ρ)

end Cert.RefStep

end
-- ==== Proof.Precondition.lean ====
/-
  What the precondition says of the arguments: no bias, and spline parameters that are bounded.
-/
module

public import proofs.«01_k».proof.Proof.RefRow
public import proofs.«01_k».proof.Proof.Gen.Pre_plain_biases_bounded_logits

@[expose] public section

set_option maxRecDepth 16384

noncomputable section

namespace Cert.RefStep

open Cert.ReferenceIdeal Cert.ReferenceIdeal.Gen Idealize.ShloMosaic Idealize.ShloMosaic.TcCoe

/-- An array equal to zero everywhere by the comparison is zero everywhere. -/
theorem zero_of_cmp {s : Shape} (h : S_.BroadcastsInDim s ![]) (x : FVec Ideal s .f32)
    (e : cmpf .oeq x (broadcastInDim s ![] h (constant S_ .f32 0x00000000#32)) = fun _ => 1#1) (i : s.Idx) : x i = (0 : EReal) := by
  have e1 : BitVec.ofBool (decide (x i = Ideal.ofBits .f32 0x00000000#32)) = 1#1 := congrFun e i
  have h0 : Ideal.ofBits .f32 0x00000000#32 = 0 := by simp [Ideal.ofBits, Ideal.ieee]
  rw [h0] at e1
  by_contra hne
  rw [decide_eq_false hne] at e1
  exact absurd e1 (by decide)

/-- Every one of the first 64 columns is above −∞ and at most 80, as the precondition compares them. -/
def checked (p : FVec Ideal S262144x97 .f32) : IVec (⟨2, ![262144, 64]⟩ : Shape) 1 :=
  andi (cmpf .ogt (extractStridedSlice (⟨2, ![262144, 64]⟩ : Shape) ![0, 0] p Cert.Pre_plain_biases_bounded_logits.Facts.slices_S262144x97_S262144x64_0_0)
      (broadcastInDim (⟨2, ![262144, 64]⟩ : Shape) ![] Cert.Pre_plain_biases_bounded_logits.Facts.bcast_S_S262144x64 (constant S_ .f32 0xFF800000#32)))
    (cmpf .ole (extractStridedSlice (⟨2, ![262144, 64]⟩ : Shape) ![0, 0] p Cert.Pre_plain_biases_bounded_logits.Facts.slices_S262144x97_S262144x64_0_0)
      (broadcastInDim (⟨2, ![262144, 64]⟩ : Shape) ![] Cert.Pre_plain_biases_bounded_logits.Facts.bcast_S_S262144x64 (constant S_ .f32 0x42A00000#32)))

/-- The first 64 columns, checked by the two comparisons, are bounded. -/
theorem bounded_of_cmp (p : FVec Ideal S262144x97 .f32) (e : checked p = fun _ => 1#1)
    (b : Fin 262144) : Spline.Bounded fun j => p (ix2 b j) := by
  have h64 := Cert.Pre_plain_biases_bounded_logits.Facts.slices_S262144x97_S262144x64_0_0
  intro k hk
  have hx : extractStridedSlice (⟨2, ![262144, 64]⟩ : Shape) ![0, 0] p h64 (ix2 b ⟨k.val, hk⟩) = p (ix2 b k) := by
    pointwise
  have e1 : IntOp.andi (BitVec.ofBool (decide (Ideal.ofBits .f32 0xFF800000#32 < extractStridedSlice (⟨2, ![262144, 64]⟩ : Shape) ![0, 0] p h64 (ix2 b ⟨k.val, hk⟩))))
      (BitVec.ofBool (decide (extractStridedSlice (⟨2, ![262144, 64]⟩ : Shape) ![0, 0] p h64 (ix2 b ⟨k.val, hk⟩) ≤ Ideal.ofBits .f32 0x42A00000#32))) = 1#1 :=
    congrFun e (ix2 b ⟨k.val, hk⟩)
  rw [hx, Spline.bits_bot, Spline.bits_eighty] at e1
  by_cases h1 : (⊥ : EReal) < p (ix2 b k)
  · by_cases h2 : p (ix2 b k) ≤ ((80 : ℝ) : EReal)
    · exact ⟨h1.ne', h2⟩
    · rw [decide_eq_false h2, decide_eq_true h1] at e1
      exact absurd e1 (by decide)
  · rw [decide_eq_false h1] at e1
    have h0 : ∀ q, IntOp.andi (BitVec.ofBool false) (BitVec.ofBool q) ≠ 1#1 := by decide
    exact absurd e1 (h0 _)

/-- The precondition is four comparisons of a bias with zero and four checks of a spline's parameters. -/
theorem fn_eq (a0 : FVec Ideal S262144x64 .f32) (a1 : FVec Ideal S262144x1 .f32) (a2 : FVec Ideal S64x256 .f32) (a3 : FVec Ideal S256 .f32) (a4 : FVec Ideal S256x256 .f32)
    (a5 : FVec Ideal S256 .f32) (a6 : FVec Ideal S4x256x97 .f32) (a7 : FVec Ideal S4x97 .f32) (a8 : FVec Ideal S256x4 .f32) (a9 : FVec Ideal S4 .f32) :
    Cert.Pre_plain_biases_bounded_logits.fn (F := Ideal) a0 a1 a2 a3 a4 a5 a6 a7 a8 a9
      = (cmpf .oeq a3 (broadcastInDim S256 ![] Cert.Pre_plain_biases_bounded_logits.Facts.bcast_S_S256 (constant S_ .f32 0x00000000#32)),
        cmpf .oeq a5 (broadcastInDim S256 ![] Cert.Pre_plain_biases_bounded_logits.Facts.bcast_S_S256 (constant S_ .f32 0x00000000#32)),
        cmpf .oeq a7 (broadcastInDim S4x97 ![] Cert.Pre_plain_biases_bounded_logits.Facts.bcast_S_S4x97 (constant S_ .f32 0x00000000#32)),
        cmpf .oeq a9 (broadcastInDim S4 ![] Cert.Pre_plain_biases_bounded_logits.Facts.bcast_S_S4 (constant S_ .f32 0x00000000#32)),
        checked (raw (layer2 (layer1 a0 a2 a3) a4 a5) (extractStridedSlice S1x256x97 ![3, 0, 0] a6 slices_S4x256x97_S1x256x97_3_0_0) (extractStridedSlice S1x97 ![3, 0] a7 slices_S4x97_S1x97_3_0)),
        checked (raw (layer2 (layer1 a0 a2 a3) a4 a5) (extractStridedSlice S1x256x97 ![2, 0, 0] a6 slices_S4x256x97_S1x256x97_2_0_0) (extractStridedSlice S1x97 ![2, 0] a7 slices_S4x97_S1x97_2_0)),
        checked (raw (layer2 (layer1 a0 a2 a3) a4 a5) (extractStridedSlice S1x256x97 ![1, 0, 0] a6 slices_S4x256x97_S1x256x97_1_0_0) (extractStridedSlice S1x97 ![1, 0] a7 slices_S4x97_S1x97_1_0)),
        checked (raw (layer2 (layer1 a0 a2 a3) a4 a5) (extractStridedSlice S1x256x97 ![0, 0, 0] a6 slices_S4x256x97_S1x256x97_0_0_0) (extractStridedSlice S1x97 ![0, 0] a7 slices_S4x97_S1x97_0_0))) := rfl

/-- The precondition's eight checks, read: the four biases vanish, and every row's parameters are bounded. -/
theorem of_pre (a0 : FVec Ideal S262144x64 .f32) (a1 : FVec Ideal S262144x1 .f32) (a2 : FVec Ideal S64x256 .f32) (a3 : FVec Ideal S256 .f32) (a4 : FVec Ideal S256x256 .f32)
    (a5 : FVec Ideal S256 .f32) (a6 : FVec Ideal S4x256x97 .f32) (a7 : FVec Ideal S4x97 .f32) (a8 : FVec Ideal S256x4 .f32) (a9 : FVec Ideal S4 .f32)
    (h : (Cert.Pre_plain_biases_bounded_logits.fn (F := Ideal) a0 a1 a2 a3 a4 a5 a6 a7 a8 a9).1 = (fun _ => 1#1)
      ∧ (Cert.Pre_plain_biases_bounded_logits.fn (F := Ideal) a0 a1 a2 a3 a4 a5 a6 a7 a8 a9).2.1 = (fun _ => 1#1)
      ∧ (Cert.Pre_plain_biases_bounded_logits.fn (F := Ideal) a0 a1 a2 a3 a4 a5 a6 a7 a8 a9).2.2.1 = (fun _ => 1#1)
      ∧ (Cert.Pre_plain_biases_bounded_logits.fn (F := Ideal) a0 a1 a2 a3 a4 a5 a6 a7 a8 a9).2.2.2.1 = (fun _ => 1#1)
      ∧ (Cert.Pre_plain_biases_bounded_logits.fn (F := Ideal) a0 a1 a2 a3 a4 a5 a6 a7 a8 a9).2.2.2.2.1 = (fun _ => 1#1)
      ∧ (Cert.Pre_plain_biases_bounded_logits.fn (F := Ideal) a0 a1 a2 a3 a4 a5 a6 a7 a8 a9).2.2.2.2.2.1 = (fun _ => 1#1)
      ∧ (Cert.Pre_plain_biases_bounded_logits.fn (F := Ideal) a0 a1 a2 a3 a4 a5 a6 a7 a8 a9).2.2.2.2.2.2.1 = (fun _ => 1#1)
      ∧ (Cert.Pre_plain_biases_bounded_logits.fn (F := Ideal) a0 a1 a2 a3 a4 a5 a6 a7 a8 a9).2.2.2.2.2.2.2 = (fun _ => 1#1)) :
    (∀ i, a3 i = (0 : EReal)) ∧ (∀ i, a5 i = (0 : EReal)) ∧ (∀ i, a7 i = (0 : EReal)) ∧ (∀ i, a9 i = (0 : EReal))
      ∧ ∀ (b : Fin 262144) (s : Fin 4), Spline.Bounded (Spline.params (fun k => a0 (ix2 b k)) (fun k j => a2 (ix2 k j)) (fun j i => a4 (ix2 j i)) (fun s i j => a6 (ix3 s i j)) s) := by
  rw [fn_eq] at h
  obtain ⟨h1, h2, h3, h4, h5, h6, h7, h8⟩ := h
  have e3 := zero_of_cmp _ a3 h1
  have e5 := zero_of_cmp _ a5 h2
  have e7 := zero_of_cmp _ a7 h3
  have e9 := zero_of_cmp _ a9 h4
  have hp := fun o h6 h7 s hs b => funext (raw_params o h6 h7 s hs a0 a2 a3 a4 a5 a6 a7 e3 e5 e7 b)
  refine ⟨e3, e5, e7, e9, fun b s => ?_⟩
  match s with
  | 0 => have := bounded_of_cmp _ h8 b; rwa [hp 0 _ _ 0 rfl] at this
  | 1 => have := bounded_of_cmp _ h7 b; rwa [hp 1 _ _ 1 rfl] at this
  | 2 => have := bounded_of_cmp _ h6 b; rwa [hp 2 _ _ 2 rfl] at this
  | 3 => have := bounded_of_cmp _ h5 b; rwa [hp 3 _ _ 3 rfl] at this

end Cert.RefStep

end
-- ==== Proof.Equation.lean ====
/-
  The equation: under the precondition the kernel's column is the reference's whole computation of the same arguments.
-/
module

public import proofs.«01_k».proof.Defs
public import proofs.«01_k».proof.Proof.KernelRun
public import proofs.«01_k».proof.Proof.RefRun
public import proofs.«01_k».proof.Proof.Precondition

@[expose] public section

set_option maxRecDepth 16384

noncomputable section

namespace Cert.Equation

open Cert.KernelIdeal Cert.KernelIdeal.Gen Idealize.ShloMosaic Idealize.ShloMosaic.TcCoe Idealize.SL.Sem

variable (m : (ℓ : Loc nD τ sig) → Buf (Elt Ideal) ℓ)

/-- The reference's whole computation of the kernel's arguments. -/
def reference (c : Dev nD) : FVec Ideal S262144x1 .f32 :=
  RefStep.whole (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))

/-- Under the precondition every row's spline parameters are bounded. -/
theorem bounded (hp : Cert.Pre_KernelIdeal_plain_biases_bounded_logits m) (c : Dev nD) : KernelStep.AllBounded m c :=
  (RefStep.of_pre _ _ _ _ _ _ _ _ _ _ (hp c)).2.2.2.2

/-- Under the precondition the two results are one column. -/
theorem equation (hp : Cert.Pre_KernelIdeal_plain_biases_bounded_logits m) (c : Dev nD) :
    reference m c = shapeCast S262144x1 (KernelStep.array m c) shapeCasts_S64x1x4096_S262144x1 := by
  obtain ⟨e3, e5, e7, e9, hB⟩ := RefStep.of_pre _ _ _ _ _ _ _ _ _ _ (hp c)
  funext i
  obtain ⟨b, rfl⟩ : ∃ b : Fin 262144, i = ix2 b 0 := ⟨i 0, funext fun a => Fin.ext (by
    match a with
    | ⟨0, _⟩ => rfl
    | ⟨1, _⟩ => have h : (i 1).val < 1 := (i 1).isLt; show (i 1).val = 0; omega)⟩
  rw [KernelStep.column_array]
  exact RefStep.whole_apply _ _ _ _ _ _ _ _ _ _ e3 e5 e7 e9 hB b

/-- The kernel and the reference compute one function of the arguments, up to the precondition. -/
theorem algebraic : Cert.algebraic_KernelIdeal_ReferenceIdeal_pre_plain_biases_bounded_logits := by
  intro m g m' g' hp hm
  refine ⟨fun c => shapeCast S262144x1 (KernelStep.array m c) shapeCasts_S64x1x4096_S262144x1, KernelStep.run_kernel m g (bounded m hp), ?_⟩
  refine (θ_run Cert.ReferenceIdeal.defs _ _).mono (fun r h c => ⟨(h c).1.trans ?_, (h c).2⟩) (RefStep.run_reference m' g')
  obtain ⟨h0, h1, h2, h3, h4, h5, h6, h7, h8, h9⟩ := hm c
  rw [h0, h1, h2, h3, h4, h5, h6, h7, h8, h9]
  exact equation m hp c

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_plain_biases_bounded_logits
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as it found them, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_plain_biases_bounded_logits.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    Cert.Equation.algebraic⟩

end Cert.Proof

end
